-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "r252" .f32 0x3B820821#32 ((1 / 252 : ℝ) : EReal)
  ∧ IdealRules.named_const.Statement Cert.KernelIdeal.κ "r120" .f32 0x3C088889#32 ((1 / 120 : ℝ) : EReal)
  ∧ IdealRules.named_const.Statement Cert.KernelIdeal.κ "twelfth" .f32 0x3DAAAAAB#32 ((1 / 12 : ℝ) : EReal)
  ∧ IdealRules.named_const.Statement Cert.KernelIdeal.κ "inv_ln2" .f32 0x3FB8AA3B#32 (((Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : IVec S4096 32) : IVec S4096x512 1 :=
  let main_v0 : FVec F S4096x512 .f32 := Host.absf main_arg0
  let main_cst : FVec F S_ .f32 := constant S_ .f32 0x551184E7#32
  let main_v1 : FVec F S4096x512 .f32 := broadcastInDim S4096x512 ![] bcast_S_S4096x512 main_cst
  let main_v2 : IVec S4096x512 1 := cmpf .ole main_v0 main_v1
  main_v2
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S1x128 : Shape := ⟨2, ![1, 128]⟩
abbrev S256x512 : Shape := ⟨2, ![256, 512]⟩
abbrev S256x1 : Shape := ⟨2, ![256, 1]⟩
abbrev S1x1x4096 : Shape := ⟨3, ![1, 1, 4096]⟩
abbrev S1 : Shape := ⟨1, ![1]⟩
abbrev S1x1x1 : Shape := ⟨3, ![1, 1, 1]⟩
abbrev S256x4096 : Shape := ⟨2, ![256, 4096]⟩
abbrev S256x128 : Shape := ⟨2, ![256, 128]⟩
abbrev S256 : Shape := ⟨1, ![256]⟩
abbrev S1x256x1 : Shape := ⟨3, ![1, 256, 1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096, .f32⟩
  | .hbm, ⟨3, _⟩ => ⟨S4096x1, .f32⟩
  | .hbm, ⟨4, _⟩ => ⟨S1x4096, .f32⟩
  | .hbm, ⟨5, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S1x128, .f32⟩
  | .local _ .vmem, ⟨7, _⟩ => ⟨S1x4096, .f32⟩
  | .local _ .vmem, ⟨8, _⟩ => ⟨S1x128, .f32⟩
  | .local _ .vmem, ⟨9, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v406 : BitVec 1 := Scalar.cmpi .eq arg0 c15_i32
  let v407 : BitVec 32 := Scalar.extui v406
  let c0_i32_65 : BitVec 32 := 0#32
  let v408 : BitVec 1 := Scalar.cmpi .ne v407 c0_i32_65
  v408

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_ln2" => some (((Real.log 2)⁻¹ : ℝ) : EReal)
  | "r120" => some ((1 / 120 : ℝ) : EReal)
  | "r252" => some ((1 / 252 : ℝ) : EReal)
  | "twelfth" => some ((1 / 12 : ℝ) : EReal)
  | _ => none
-- ==== ReferenceIdeal.lean ====
abbrev S4096x512 : Shape := ⟨2, ![4096, 512]⟩
abbrev S4096 : Shape := ⟨1, ![4096]⟩
abbrev S1x4096 : Shape := ⟨2, ![1, 4096]⟩
abbrev S10 : Shape := ⟨1, ![10]⟩
abbrev S10x1 : Shape := ⟨2, ![10, 1]⟩
abbrev S10x4096 : Shape := ⟨2, ![10, 4096]⟩
abbrev S_ : Shape := ⟨0, ![]⟩
abbrev S6 : Shape := ⟨1, ![6]⟩
abbrev S1x6 : Shape := ⟨2, ![1, 6]⟩
abbrev S10x6 : Shape := ⟨2, ![10, 6]⟩
abbrev S4096x1 : Shape := ⟨2, ![4096, 1]⟩
abbrev S4096x4096 : Shape := ⟨2, ![4096, 4096]⟩
abbrev S512x4096 : Shape := ⟨2, ![512, 4096]⟩
abbrev S4096x4 : Shape := ⟨2, ![4096, 4]⟩
abbrev S4096x6 : Shape := ⟨2, ![4096, 6]⟩
abbrev S1x128 : Shape := ⟨2, ![1, 128]⟩

abbrev nBuf : Space → Nat
  | .hbm => 186
  | .vmem => 0
  | .smem => 0
  | _ => 0

abbrev hbmTy0_0 (i : Nat) : BufTy := match i % 128 with
  | 0 => ⟨S4096x512, .f32⟩
  | 1 => ⟨S4096, .i32⟩
  | 2 => ⟨S1x4096, .i32⟩
  | 3 => ⟨S10, .i32⟩
  | 4 => ⟨S10x1, .i32⟩
  | 5 => ⟨S10x4096, .i32⟩
  | 6 => ⟨S10x4096, .i32⟩
  | 7 => ⟨S10x4096, .i1⟩
  | 8 => ⟨S10x4096, .f32⟩
  | 9 => ⟨S_, .f32⟩
  | 10 => ⟨S10, .f32⟩
  | 11 => ⟨S_, .f32⟩
  | 12 => ⟨S10, .f32⟩
  | 13 => ⟨S10, .f32⟩
  | 14 => ⟨S_, .f32⟩
  | 15 => ⟨S10, .f32⟩
  | 16 => ⟨S10, .f32⟩
  | 17 => ⟨S10, .f32⟩
  | 18 => ⟨S_, .f32⟩
  | 19 => ⟨S10, .f32⟩
  | 20 => ⟨S10, .f32⟩
  | 21 => ⟨S_, .f32⟩
  | 22 => ⟨S10, .f32⟩
  | 23 => ⟨S10, .f32⟩
  | 24 => ⟨S10, .f32⟩
  | 25 => ⟨S10, .f32⟩
  | 26 => ⟨S_, .f32⟩
  | 27 => ⟨S10, .f32⟩
  | 28 => ⟨S10, .f32⟩
  | 29 => ⟨S_, .f32⟩
  | 30 => ⟨S10, .f32⟩
  | 31 => ⟨S10, .f32⟩
  | 32 => ⟨S10, .f32⟩
  | 33 => ⟨S10, .f32⟩
  | 34 => ⟨S10, .f32⟩
  | 35 => ⟨S_, .f32⟩
  | 36 => ⟨S10, .f32⟩
  | 37 => ⟨S10, .f32⟩
  | 38 => ⟨S_, .f32⟩
  | 39 => ⟨S10, .f32⟩
  | 40 => ⟨S10, .f32⟩
  | 41 => ⟨S10, .f32⟩
  | 42 => ⟨S10, .f32⟩
  | 43 => ⟨S10, .f32⟩
  | 44 => ⟨S10, .f32⟩
  | 45 => ⟨S_, .f32⟩
  | 46 => ⟨S10, .f32⟩
  | 47 => ⟨S10, .f32⟩
  | 48 => ⟨S_, .f32⟩
  | 49 => ⟨S10, .f32⟩
  | 50 => ⟨S10, .f32⟩
  | 51 => ⟨S10, .f32⟩
  | 52 => ⟨S10x1, .f32⟩
  | 53 => ⟨S6, .i32⟩
  | 54 => ⟨S6, .f32⟩
  | 55 => ⟨S1x6, .f32⟩
  | 56 => ⟨S10x6, .f32⟩
  | 57 => ⟨S10x6, .f32⟩
  | 58 => ⟨S10x6, .f32⟩
  | 59 => ⟨S_, .f32⟩
  | 60 => ⟨S10x6, .f32⟩
  | 61 => ⟨S10x6, .f32⟩
  | 62 => ⟨S_, .f32⟩
  | 63 => ⟨S10, .f32⟩
  | 64 => ⟨S10, .f32⟩
  | 65 => ⟨S10, .f32⟩
  | 66 => ⟨S_, .f32⟩
  | 67 => ⟨S_, .f32⟩
  | 68 => ⟨S4096x512, .f32⟩
  | 69 => ⟨S_, .f32⟩
  | 70 => ⟨S4096, .f32⟩
  | 71 => ⟨S4096x1, .f32⟩
  | 72 => ⟨S1x4096, .f32⟩
  | 73 => ⟨S4096x4096, .f32⟩
  | 74 => ⟨S4096x4096, .f32⟩
  | 75 => ⟨S4096x4096, .f32⟩
  | 76 => ⟨S512x4096, .f32⟩
  | 77 => ⟨S4096x4096, .f32⟩
  | 78 => ⟨S_, .f32⟩
  | 79 => ⟨S4096x4096, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S_, .f32⟩
  | 86 => ⟨S4096x4096, .f32⟩
  | 87 => ⟨S4096x4096, .f32⟩
  | 88 => ⟨S4096x4096, .f32⟩
  | 89 => ⟨S4096x1, .i32⟩
  | 90 => ⟨S1x4096, .i32⟩
  | 91 => ⟨S4096x4096, .i32⟩
  | 92 => ⟨S4096x4096, .i32⟩
  | 93 => ⟨S4096x4096, .i1⟩
  | 94 => ⟨S_, .f32⟩
  | 95 => ⟨S4096x4096, .f32⟩
  | 96 => ⟨S4096x4096, .f32⟩
  | 97 => ⟨S4096x4096, .f32⟩
  | 98 => ⟨S4096x4, .f32⟩
  | 99 => ⟨S4096x4, .i32⟩
  | 100 => ⟨S4096x1, .f32⟩
  | 101 => ⟨S4096, .f32⟩
  | 102 => ⟨S4096, .f32⟩
  | 103 => ⟨S4096x1, .f32⟩
  | 104 => ⟨S4096x4096, .f32⟩
  | 105 => ⟨S4096x4096, .f32⟩
  | 106 => ⟨S_, .f32⟩
  | 107 => ⟨S4096x4096, .f32⟩
  | 108 => ⟨S4096x4096, .i1⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S_, .f32⟩
  | 121 => ⟨S4096, .f32⟩
  | 122 => ⟨S4096, .f32⟩
  | 123 => ⟨S4096, .f32⟩
  | 124 => ⟨S_, .f32⟩
  | 125 => ⟨S4096, .f32⟩
  | 126 => ⟨S4096, .f32⟩
  | 127 => ⟨S_, .f32⟩
  | _ => ⟨S4096x512, .f32⟩

abbrev hbmTy0_1 (i : Nat) : BufTy := match i % 128 with
  | 0 => ⟨S4096, .f32⟩
  | 1 => ⟨S4096, .f32⟩
  | 2 => ⟨S4096, .f32⟩
  | 3 => ⟨S4096, .f32⟩
  | 4 => ⟨S_, .f32⟩
  | 5 => ⟨S4096, .f32⟩
  | 6 => ⟨S4096, .f32⟩
  | 7 => ⟨S_, .f32⟩
  | 8 => ⟨S4096, .f32⟩
  | 9 => ⟨S4096, .f32⟩
  | 10 => ⟨S4096, .f32⟩
  | 11 => ⟨S4096, .f32⟩
  | 12 => ⟨S4096, .f32⟩
  | 13 => ⟨S_, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S4096, .f32⟩
  | 21 => ⟨S4096, .f32⟩
  | 22 => ⟨S4096, .f32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .f32⟩
  | 30 => ⟨S4096x1, .f32⟩
  | 31 => ⟨S6, .i32⟩
  | 32 => ⟨S6, .f32⟩
  | 33 => ⟨S1x6, .f32⟩
  | 34 => ⟨S4096x6, .f32⟩
  | 35 => ⟨S4096x6, .f32⟩
  | 36 => ⟨S4096x6, .f32⟩
  | 37 => ⟨S_, .f32⟩
  | 38 => ⟨S4096x6, .f32⟩
  | 39 => ⟨S4096x6, .f32⟩
  | 40 => ⟨S_, .f32⟩
  | 41 => ⟨S4096, .f32⟩
  | 42 => ⟨S4096, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_14 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_15 : Ref sig .tc := ⟨.hbm, 82, rfl⟩
abbrev main_v64 : Ref sig .tc := ⟨.hbm, 83, rfl⟩
abbrev main_v65 : Ref sig .tc := ⟨.hbm, 84, rfl⟩
abbrev main_cst_16 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_17 : Ref sig .tc := ⟨.hbm, 94, rfl⟩
abbrev main_call0_v0 : Ref sig .tc := ⟨.hbm, 95, rfl⟩
abbrev main_v74 : Ref sig .tc := ⟨.hbm, 96, rfl⟩
abbrev main_v75 : Ref sig .tc := ⟨.hbm, 97, rfl⟩
abbrev main_values : Ref sig .tc := ⟨.hbm, 98, rfl⟩
abbrev main_indices : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_23 : Ref sig .tc := ⟨.hbm, 124, rfl⟩
abbrev main_v95 : Ref sig .tc := ⟨.hbm, 125, rfl⟩
abbrev main_v96 : Ref sig .tc := ⟨.hbm, 126, rfl⟩
abbrev main_cst_24 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_25 : Ref sig .tc := ⟨.hbm, 132, rfl⟩
abbrev main_v101 : Ref sig .tc := ⟨.hbm, 133, rfl⟩
abbrev main_v102 : Ref sig .tc := ⟨.hbm, 134, rfl⟩
abbrev main_cst_26 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_27 : Ref sig .tc := ⟨.hbm, 141, rfl⟩
abbrev main_v108 : Ref sig .tc := ⟨.hbm, 142, rfl⟩
abbrev main_v109 : Ref sig .tc := ⟨.hbm, 143, rfl⟩
abbrev main_cst_28 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_29 : Ref sig .tc := ⟨.hbm, 151, rfl⟩
abbrev main_v116 : Ref sig .tc := ⟨.hbm, 152, rfl⟩
abbrev main_v117 : Ref sig .tc := ⟨.hbm, 153, rfl⟩
abbrev main_cst_30 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_31 : Ref sig .tc := ⟨.hbm, 165, rfl⟩
abbrev main_v128 : Ref sig .tc := ⟨.hbm, 166, rfl⟩
abbrev main_v129 : Ref sig .tc := ⟨.hbm, 167, rfl⟩
abbrev main_cst_32 : Ref sig .tc := ⟨.hbm, 168, rfl⟩
abbrev main_v130 : Ref sig .tc := ⟨.hbm, 169, rfl⟩
abbrev main_v131 : Ref sig .tc := ⟨.hbm, 170, rfl⟩
abbrev main_cst_33 : Ref sig .tc := ⟨.hbm, 171, rfl⟩
abbrev main_v132 : Ref sig .tc := ⟨.hbm, 172, rfl⟩
abbrev main_cst_34 : Ref sig .tc := ⟨.hbm, 173, rfl⟩
abbrev main_v133 : Ref sig .tc := ⟨.hbm, 174, rfl⟩
abbrev main_cst_35 : Ref sig .tc := ⟨.hbm, 175, rfl⟩
abbrev main_v134 : Ref sig .tc := ⟨.hbm, 176, rfl⟩
abbrev main_cst_36 : Ref sig .tc := ⟨.hbm, 177, rfl⟩
abbrev main_v135 : Ref sig .tc := ⟨.hbm, 178, rfl⟩
abbrev main_v136 : Ref sig .tc := ⟨.hbm, 179, rfl⟩
abbrev main_cst_37 : Ref sig .tc := ⟨.hbm, 180, rfl⟩
abbrev main_v137 : Ref sig .tc := ⟨.hbm, 181, rfl⟩
abbrev main_v138 : Ref sig .tc := ⟨.hbm, 182, rfl⟩
abbrev main_call1_cst : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]
-- ==== Proof.Blocks.lean ====
/- The kernel's input blocks at a grid point, as entries of the two arguments. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen

variable (m : (ℓ : Loc nD τ sig) → Buf (Elt Ideal) ℓ)

/-- The points of each window's block. -/
theorem idx : ∀ t : Fin cfg0.N, win0_0.index t = ![t.val, 0] ∧ win0_1.index t = ![0, 0] ∧ win0_2.index t = ![t.val, 0] ∧ win0_3.index t = ![0, 0] :=
  (by decide +kernel : ∀ t : Fin grid0.N, _)

/-- The samples. -/
abbrev argX (c : Dev nD) : Vec Ideal S4096x512 .f32 := m ((c : Thread nD τ).loc main_arg0)

/-- The labels. -/
abbrev argY (c : Dev nD) : Vec Ideal S4096 .i32 := m ((c : Thread nD τ).loc main_arg1)

/-- The label column the region finds: the converted labels. -/
theorem V_v1 (c : Dev nD) : V m c main_v1 = shapeCast S4096x1 (sitofp (F := Ideal) .f32 (argY m c)) shapeCasts_S4096_S4096x1 := by
  unfold_abbrev_sides
  after_results
  rfl

/-- The label row the region finds: the converted labels. -/
theorem V_v2 (c : Dev nD) : V m c main_v2 = shapeCast S1x4096 (sitofp (F := Ideal) .f32 (argY m c)) shapeCasts_S4096_S1x4096 := by
  unfold_abbrev_sides
  after_results
  rfl

/-- Window 0 at point `t`: rows `256 t …` of the samples. -/
theorem iblk_0 (c : Dev nD) (t : Fin cfg0.N) (r : Fin 256) (k : Fin 512) (h : 256 * t.val + r.val < 4096) :
    iblk m c 0 t (ix2 r k) = argX m c (ix2 ⟨256 * t.val + r.val, h⟩ k) := by
  blk_ext! [iblk, V_main_arg0, idx t]

/-- The whole sample array is the second block at every point. -/
theorem iblk_1 (c : Dev nD) (t : Fin cfg0.N) : iblk m c 1 t = argX m c := by
  blk_ext! [iblk, V_main_arg0, idx t]

/-- A point's label column: the labels of its 256 rows, as numbers. -/
theorem iblk_2 (c : Dev nD) (t : Fin cfg0.N) (r : Fin 256) (h : 256 * t.val + r.val < 4096) :
    iblk m c 2 t (ix2 r 0) = (((argY m c (ix1 ⟨256 * t.val + r.val, h⟩)).toInt : ℝ) : EReal) := by
  have e : iblk m c 2 t (ix2 r 0) = V m c main_v1 (ix2 ⟨256 * t.val + r.val, h⟩ 0) := by
    blk_ext! [iblk, idx t]
  rw [e, V_v1]
  pointwise
  rfl

/-- The label row at every point: all the labels, as numbers. -/
theorem iblk_3 (c : Dev nD) (t : Fin cfg0.N) (q : Fin 4096) :
    iblk m c 3 t (ix2 0 q) = (((argY m c (ix1 q)).toInt : ℝ) : EReal) := by
  have e : iblk m c 3 t (ix2 0 q) = V m c main_v2 (ix2 0 q) := by
    blk_ext! [iblk, idx t]
  rw [e, V_v2]
  pointwise
  rfl

end Cert.KernelIdeal.Body

end
-- ==== Proof.Select.lean ====
/- The combinatorics of the kernel's selection, over any linear order: the four smallest entries of each lane, kept by
   a chain of minima and maxima; the fourth smallest of those, found by three rounds of "the least value above the
   current one"; and the fact that it is the fourth smallest entry of the whole row. Nothing here mentions a program. -/
module

public import Idealize.ShloMosaic.Lib.Pointwise
public import Mathlib.Data.Fintype.BigOperators
public import Mathlib.Logic.Equiv.Fin.Basic

@[expose] public section

namespace Cert.Select

variable {α ι : Type} [LinearOrder α] [Fintype ι]

/-- `a` is the fourth smallest entry of `w`, repetitions counted: fewer than four entries lie below it and at least
    four lie at or below it. -/
def Fourth (w : ι → α) (a : α) : Prop :=
  (Finset.univ.filter fun j => w j < a).card < 4 ∧ 4 ≤ (Finset.univ.filter fun j => w j ≤ a).card

/-- The fourth smallest entry is an entry. -/
theorem Fourth.exists_eq {w : ι → α} {a : α} (h : Fourth w a) : ∃ p, w p = a := by
  by_contra hne
  push Not at hne
  have : (Finset.univ.filter fun j => w j ≤ a) = Finset.univ.filter fun j => w j < a :=
    Finset.filter_congr fun j _ => ⟨fun hj => lt_of_le_of_ne hj (hne j), le_of_lt⟩
  have h1 := h.1
  have h2 := h.2
  rw [this] at h2
  omega

/-- There is only one fourth smallest entry. -/
theorem Fourth.unique {w : ι → α} {a b : α} (ha : Fourth w a) (hb : Fourth w b) : a = b := by
  have key : ∀ {a b : α}, Fourth w a → Fourth w b → ¬ a < b := by
    intro a b ha hb hab
    have hsub : (Finset.univ.filter fun j => w j ≤ a) ⊆ Finset.univ.filter fun j => w j < b := fun j hj => by
      simp only [Finset.mem_filter, Finset.mem_univ, true_and] at hj ⊢
      exact lt_of_le_of_lt hj hab
    have := Finset.card_le_card hsub
    have h1 := ha.2
    have h2 := hb.1
    omega
  exact le_antisymm (not_lt.mp (key hb ha)) (not_lt.mp (key ha hb))

/-- Two rows whose entries stand in the same order have their fourth smallest entries at the same places. -/
theorem Fourth.transfer {β : Type} [LinearOrder β] {w : ι → α} {v : ι → β} (h : ∀ j k, w j ≤ w k ↔ v j ≤ v k)
    {p : ι} (hp : Fourth w (w p)) : Fourth v (v p) := by
  have hlt : ∀ j k, w j < w k ↔ v j < v k := fun j k => by
    rw [← not_le, ← not_le, h]
  unfold Fourth at hp ⊢
  simpa only [h, hlt] using hp

/-- A masked row `w` (the entries `d` where `s` holds, the fill `B` elsewhere) and a second one `v` (entries `D`, fill
    `B'`) in the same order: an entry `d j` is at most `w`'s fourth smallest exactly when `D j` is at most `v`'s. -/
theorem count_transfer {β : Type} [LinearOrder β] {d w : ι → α} {D v : ι → β} {B : α} {B' : β} {s : ι → Prop}
    [DecidablePred s] (hw : ∀ j, w j = if s j then d j else B) (hv : ∀ j, v j = if s j then D j else B')
    (hdB : ∀ j, d j < B) (hDB : ∀ j, D j < B') (h : ∀ j k, d j ≤ d k ↔ D j ≤ D k)
    {a : α} {b : β} (ha : Fourth w a) (hb : Fourth v b) (j : ι) : d j ≤ a ↔ D j ≤ b := by
  have hord : ∀ j k, w j ≤ w k ↔ v j ≤ v k := fun j k => by
    rw [hw, hw, hv, hv]
    by_cases hj : s j <;> by_cases hk : s k
    · simp only [if_pos hj, if_pos hk]; exact h j k
    · simp only [if_pos hj, if_neg hk]; exact ⟨fun _ => (hDB j).le, fun _ => (hdB j).le⟩
    · simp only [if_neg hj, if_pos hk]
      exact ⟨fun hh => absurd hh (not_le.mpr (hdB k)), fun hh => absurd hh (not_le.mpr (hDB k))⟩
    · simp only [if_neg hj, if_neg hk, le_refl]
  obtain ⟨p, rfl⟩ := ha.exists_eq
  have hb' : b = v p := hb.unique (ha.transfer hord)
  rw [hb', hw p, hv p]
  by_cases hp : s p
  · simp only [if_pos hp]; exact h j p
  · simp only [if_neg hp]; exact ⟨fun _ => (hDB j).le, fun _ => (hdB j).le⟩

/-! ### The chain: four smallest per lane -/

/-- One entry put among the four smallest so far. -/
def step (m : α × α × α × α) (e : α) : α × α × α × α :=
  (min m.1 e, min m.2.1 (max m.1 e), min m.2.2.1 (max m.2.1 e), min m.2.2.2 (max m.2.2.1 e))

/-- The four smallest of the first `n` entries, from four fills `B`. -/
def chain (B : α) (e : ℕ → α) : ℕ → α × α × α × α
  | 0 => (B, B, B, B)
  | n + 1 => step (chain B e n) (e n)

/-- How many of the first `n` entries have the property. -/
def cnt (P : α → Prop) [DecidablePred P] (e : ℕ → α) (n : ℕ) : ℕ := ((Finset.range n).filter fun k => P (e k)).card

/-- The count over one more entry. -/
theorem cnt_succ (P : α → Prop) [DecidablePred P] (e : ℕ → α) (n : ℕ) :
    cnt P e (n + 1) = cnt P e n + if P (e n) then 1 else 0 := by
  unfold cnt
  rw [Finset.range_add_one, Finset.filter_insert]
  split
  · rw [Finset.card_insert_of_notMem (by simp)]
  · simp

/-- The `r`-th of the four has a downward closed property exactly when at least `r` entries seen have it. -/
theorem chain_iff (P : α → Prop) [DecidablePred P] (hP : ∀ a b, a ≤ b → P b → P a) {B : α} (hB : ¬ P B) (e : ℕ → α)
    (n : ℕ) : (P (chain B e n).1 ↔ 1 ≤ cnt P e n) ∧ (P (chain B e n).2.1 ↔ 2 ≤ cnt P e n)
      ∧ (P (chain B e n).2.2.1 ↔ 3 ≤ cnt P e n) ∧ (P (chain B e n).2.2.2 ↔ 4 ≤ cnt P e n) := by
  have hmin : ∀ a b, P (min a b) ↔ P a ∨ P b := fun a b => by
    rcases le_total a b with h | h
    · rw [min_eq_left h]; exact ⟨Or.inl, fun hh => hh.elim id (hP _ _ h)⟩
    · rw [min_eq_right h]; exact ⟨Or.inr, fun hh => hh.elim (hP _ _ h) id⟩
  have hmax : ∀ a b, P (max a b) ↔ P a ∧ P b := fun a b => by
    rcases le_total a b with h | h
    · rw [max_eq_right h]; exact ⟨fun hh => ⟨hP _ _ h hh, hh⟩, And.right⟩
    · rw [max_eq_left h]; exact ⟨fun hh => ⟨hh, hP _ _ h hh⟩, And.left⟩
  induction n with
  | zero => simp [chain, cnt, hB]
  | succ n ih =>
    obtain ⟨h1, h2, h3, h4⟩ := ih
    simp only [chain, step, hmin, hmax, h1, h2, h3, h4, cnt_succ]
    by_cases he : P (e n)
    · simp only [he, if_true, or_true, and_true, true_iff]; omega
    · simp only [he, if_false, or_false, and_false, add_zero, and_self]

/-- So the number of the four that have the property is the number of entries that have it, capped at four. -/
theorem chain_count (P : α → Prop) [DecidablePred P] (hP : ∀ a b, a ≤ b → P b → P a) {B : α} (hB : ¬ P B) (e : ℕ → α)
    (n : ℕ) : (if P (chain B e n).1 then 1 else 0) + (if P (chain B e n).2.1 then 1 else 0)
      + (if P (chain B e n).2.2.1 then 1 else 0) + (if P (chain B e n).2.2.2 then 1 else 0) = min 4 (cnt P e n) := by
  obtain ⟨h1, h2, h3, h4⟩ := chain_iff P hP hB e n
  simp only [h1, h2, h3, h4]
  split_ifs <;> omega

/-- The `q`-th of four. -/
def nth (m : α × α × α × α) : Fin 4 → α := ![m.1, m.2.1, m.2.2.1, m.2.2.2]

/-- Entry `k` of lane `l` of a row of 4096 entries in 32 chunks of 128. -/
def lane (w : Fin 4096 → α) (l : Fin 128) (k : ℕ) : α := if h : k < 32 then w ⟨128 * k + l.val, by omega⟩ else w 0

/-- The 512 candidates of a row: the four smallest of each of its 128 lanes. -/
def cand (B : α) (w : Fin 4096 → α) (j : Fin 512) : α :=
  nth (chain B (lane w ⟨j.val % 128, Nat.mod_lt _ (by decide)⟩) 32) ⟨j.val / 128, by omega⟩

/-- A sum over `m·n` places, read column by column. -/
theorem sum_split {M : Type} [AddCommMonoid M] (m n N : ℕ) (h : N = m * n) (f : Fin N → M)
    (hb : ∀ (k : Fin m) (l : Fin n), n * k.val + l.val < N) :
    ∑ j, f j = ∑ l : Fin n, ∑ k : Fin m, f ⟨n * k.val + l.val, hb k l⟩ := by
  subst h
  rw [← (finProdFinEquiv (m := m) (n := n)).sum_comp f, Fintype.sum_prod_type, Finset.sum_comm]
  refine Finset.sum_congr rfl fun l _ => Finset.sum_congr rfl fun k _ => ?_
  congr 1
  exact Fin.ext (by simp [finProdFinEquiv]; omega)

/-- A count over a row is the sum of the counts over its lanes. -/
theorem card_row (P : α → Prop) [DecidablePred P] (w : Fin 4096 → α) :
    (Finset.univ.filter fun j => P (w j)).card = ∑ l : Fin 128, cnt P (lane w l) 32 := by
  rw [Finset.card_filter, sum_split 32 128 4096 rfl _ (fun k l => by omega)]
  refine Finset.sum_congr rfl fun l _ => ?_
  unfold cnt
  rw [Finset.card_filter, ← Fin.sum_univ_eq_sum_range (fun k => if P (lane w l k) then 1 else 0) 32]
  refine Finset.sum_congr rfl fun k _ => ?_
  simp only [lane, dif_pos k.isLt]

/-- A candidate is one of its lane's four smallest. -/
theorem cand_lane (B : α) (w : Fin 4096 → α) (q : Fin 4) (l : Fin 128) (h : 128 * q.val + l.val < 512) :
    cand B w ⟨128 * q.val + l.val, h⟩ = nth (chain B (lane w l) 32) q := by
  have h1 : (⟨(128 * q.val + l.val) % 128, Nat.mod_lt _ (by decide)⟩ : Fin 128) = l := Fin.ext (by show _ % 128 = _; omega)
  have h2 : (⟨(128 * q.val + l.val) / 128, by omega⟩ : Fin 4) = q := Fin.ext (by show _ / 128 = _; omega)
  unfold cand
  simp only [h1, h2]

/-- A count over the candidates, for a property that passes to smaller values: each lane's count, four at most. -/
theorem card_cand (P : α → Prop) [DecidablePred P] (hP : ∀ a b, a ≤ b → P b → P a) {B : α} (hB : ¬ P B)
    (w : Fin 4096 → α) :
    (Finset.univ.filter fun j => P (cand B w j)).card = ∑ l : Fin 128, min 4 (cnt P (lane w l) 32) := by
  rw [Finset.card_filter, sum_split 4 128 512 rfl _ (fun k l => by omega)]
  refine Finset.sum_congr rfl fun l _ => ?_
  rw [← chain_count P hP hB (lane w l) 32]
  simp only [cand_lane, Fin.sum_univ_four]
  rfl

/-- Four candidates have a downward closed property exactly when four entries of the row have it. -/
theorem four_le_iff (P : α → Prop) [DecidablePred P] (hP : ∀ a b, a ≤ b → P b → P a) {B : α} (hB : ¬ P B)
    (w : Fin 4096 → α) :
    4 ≤ (Finset.univ.filter fun j => P (cand B w j)).card ↔ 4 ≤ (Finset.univ.filter fun j => P (w j)).card := by
  rw [card_cand P hP hB, card_row]
  by_cases h : ∃ l, 4 ≤ cnt P (lane w l) 32
  · obtain ⟨l, hl⟩ := h
    have h1 := Finset.single_le_sum (f := fun l => min 4 (cnt P (lane w l) 32)) (fun i _ => Nat.zero_le _) (Finset.mem_univ l)
    have h2 := Finset.single_le_sum (f := fun l => cnt P (lane w l) 32) (fun i _ => Nat.zero_le _) (Finset.mem_univ l)
    exact ⟨fun _ => by omega, fun _ => by omega⟩
  · push Not at h
    rw [Finset.sum_congr rfl fun l _ => min_eq_right (h l).le]

/-- The candidates do not exceed the fill. -/
theorem chain_le {B : α} (e : ℕ → α) (n : ℕ) : (chain B e n).1 ≤ B ∧ (chain B e n).2.1 ≤ B
    ∧ (chain B e n).2.2.1 ≤ B ∧ (chain B e n).2.2.2 ≤ B := by
  induction n with
  | zero => simp [chain]
  | succ n ih =>
    obtain ⟨h1, h2, h3, h4⟩ := ih
    exact ⟨(min_le_left _ _).trans h1, (min_le_left _ _).trans h2, (min_le_left _ _).trans h3, (min_le_left _ _).trans h4⟩

/-- No candidate exceeds the fill. -/
theorem cand_le {B : α} (w : Fin 4096 → α) (j : Fin 512) : cand B w j ≤ B := by
  obtain ⟨h1, h2, h3, h4⟩ := chain_le (B := B) (lane w ⟨j.val % 128, Nat.mod_lt _ (by decide)⟩) 32
  unfold cand nth
  generalize (⟨j.val / 128, _⟩ : Fin 4) = q
  fin_cases q
  · exact h1
  · exact h2
  · exact h3
  · exact h4

/-- The fourth smallest candidate is the fourth smallest entry of the row, whose entries do not exceed the fill. -/
theorem fourth_of_cand {B : α} {w : Fin 4096 → α} (hw : ∀ j, w j ≤ B) {a : α} (ha : Fourth (cand B w) a) : Fourth w a := by
  have haB : a ≤ B := by
    obtain ⟨p, rfl⟩ := ha.exists_eq
    exact cand_le w p
  refine ⟨?_, ?_⟩
  · have := four_le_iff (fun x => x < a) (fun x y h hy => lt_of_le_of_lt h hy) (B := B) (not_lt.mpr haB) w
    have h1 := ha.1
    omega
  · rcases lt_or_eq_of_le haB with h | rfl
    · exact (four_le_iff (fun x => x ≤ a) (fun x y h hy => h.trans hy) (B := B) (not_le.mpr h) w).mp ha.2
    · rw [Finset.filter_true_of_mem fun j _ => hw j]
      simp

/-! ### The rounds -/

/-- What holds after `k` values have been met: the anchor has fewer than four entries below it, the count is of the
    entries at or below it, the current value is the anchor while the count is short, and the count is at least `k`
    unless it has reached four. -/
def Inv (u : ι → α) (k : ℕ) (cur anchor : α) (c : ℕ) : Prop :=
  (Finset.univ.filter fun j => u j < anchor).card < 4 ∧ c = (Finset.univ.filter fun j => u j ≤ anchor).card
    ∧ (c < 4 → cur = anchor) ∧ (k ≤ c ∨ 4 ≤ c)

/-- The greatest lower bound of finitely many values, when there is one at all, is one of them. -/
theorem glb_attained [Nonempty ι] {f : ι → α} {v : α} (hv : ∀ x, x ≤ v ↔ ∀ j, x ≤ f j) : ∃ j, v = f j := by
  obtain ⟨j, -, hj⟩ := Finset.exists_min_image Finset.univ f Finset.univ_nonempty
  exact ⟨j, le_antisymm ((hv v).mp le_rfl j) ((hv _).mpr fun k => hj k (Finset.mem_univ k))⟩

/-- The least entry starts the rounds. -/
theorem inv_one [Nonempty ι] {u : ι → α} {v : α} (hv : ∀ x, x ≤ v ↔ ∀ j, x ≤ u j) :
    Inv u 1 v v (Finset.univ.filter fun j => u j = v).card := by
  have hle : ∀ j, v ≤ u j := (hv v).mp le_rfl
  obtain ⟨p, hp⟩ := glb_attained hv
  refine ⟨?_, ?_, fun _ => rfl, Or.inl ?_⟩
  · rw [Finset.filter_false_of_mem fun j _ => not_lt.mpr (hle j)]; simp
  · exact congrArg Finset.card (Finset.filter_congr fun j _ => ⟨le_of_eq, fun h => le_antisymm h (hle j)⟩)
  · exact Finset.card_pos.mpr ⟨p, Finset.mem_filter.mpr ⟨Finset.mem_univ p, hp.symm⟩⟩

/-- One round: the least entry above the current value, taken while the count is short of four. -/
theorem inv_step [Nonempty ι] {u : ι → α} {B : α} (huB : ∀ j, u j ≤ B) (hcard : 4 ≤ Fintype.card ι) {k : ℕ}
    {cur anchor nxt : α} {c : ℕ} (h : Inv u k cur anchor c) (hn : ∀ x, x ≤ nxt ↔ ∀ j, x ≤ if cur < u j then u j else B) :
    Inv u (k + 1) nxt (if c < 4 then nxt else anchor) (c + if c < 4 then (Finset.univ.filter fun j => u j = nxt).card else 0) := by
  obtain ⟨h1, h2, h3, h4⟩ := h
  by_cases hc : c < 4
  · obtain rfl := h3 hc
    simp only [if_pos hc]
    obtain ⟨q, hq⟩ : ∃ q, cur < u q := by
      by_contra hne
      push Not at hne
      rw [Finset.filter_true_of_mem fun j _ => hne j, Finset.card_univ] at h2
      omega
    have hle : ∀ j, cur < u j → nxt ≤ u j := fun j hj => by
      have := (hn nxt).mp le_rfl j
      rwa [if_pos hj] at this
    obtain ⟨p, hp, hpn⟩ : ∃ p, cur < u p ∧ nxt = u p := by
      obtain ⟨p, hp⟩ := glb_attained hn
      by_cases hpc : cur < u p
      · exact ⟨p, hpc, by rw [hp, if_pos hpc]⟩
      · rw [if_neg hpc] at hp
        exact ⟨q, hq, le_antisymm (hle q hq) (hp ▸ huB q)⟩
    have hlt : (Finset.univ.filter fun j => u j < nxt) = Finset.univ.filter fun j => u j ≤ cur :=
      Finset.filter_congr fun j _ => ⟨fun hj => by
        by_contra hcon
        exact absurd hj (not_lt.mpr (hle j (not_le.mp hcon))), fun hj => lt_of_le_of_lt hj (hpn ▸ hp)⟩
    classical
    have hsum : (Finset.univ.filter fun j => u j ≤ nxt).card
        = (Finset.univ.filter fun j => u j < nxt).card + (Finset.univ.filter fun j => u j = nxt).card := by
      rw [← Finset.card_union_of_disjoint]
      · congr 1
        ext j
        simp only [Finset.mem_filter, Finset.mem_univ, true_and, Finset.mem_union]
        exact le_iff_lt_or_eq
      · rw [Finset.disjoint_filter]
        exact fun j _ hj => ne_of_lt hj
    have hpos : 0 < (Finset.univ.filter fun j => u j = nxt).card :=
      Finset.card_pos.mpr ⟨p, Finset.mem_filter.mpr ⟨Finset.mem_univ p, hpn.symm⟩⟩
    refine ⟨?_, ?_, fun _ => rfl, ?_⟩
    · rw [hlt]; omega
    · rw [hsum, hlt, ← h2]
    · omega
  · simp only [if_neg hc, add_zero]
    exact ⟨h1, h2, fun hh => absurd hh hc, by omega⟩

/-- After the least entry and three rounds the anchor is the fourth smallest. -/
theorem Inv.fourth {u : ι → α} {cur anchor : α} {c : ℕ} (h : Inv u 4 cur anchor c) : Fourth u anchor :=
  ⟨h.1, by have := h.2.1; have := h.2.2.2; omega⟩

/-- The whole selection: the least candidate `v`, three rounds `n₁ n₂ n₃` with their counts, and the anchor. -/
theorem rounds [Nonempty ι] {u : ι → α} {B : α} (huB : ∀ j, u j ≤ B) (hcard : 4 ≤ Fintype.card ι) {v n₁ n₂ n₃ : α}
    (hv : ∀ x, x ≤ v ↔ ∀ j, x ≤ u j) (h1 : ∀ x, x ≤ n₁ ↔ ∀ j, x ≤ if v < u j then u j else B)
    (h2 : ∀ x, x ≤ n₂ ↔ ∀ j, x ≤ if n₁ < u j then u j else B)
    (h3 : ∀ x, x ≤ n₃ ↔ ∀ j, x ≤ if n₂ < u j then u j else B) {c₁ c₂ c₃ : ℕ} {a₁ a₂ a₃ : α}
    (hc1 : c₁ = (Finset.univ.filter fun j => u j = v).card)
    (hc2 : c₂ = c₁ + if c₁ < 4 then (Finset.univ.filter fun j => u j = n₁).card else 0)
    (hc3 : c₃ = c₂ + if c₂ < 4 then (Finset.univ.filter fun j => u j = n₂).card else 0)
    (ha1 : a₁ = if c₁ < 4 then n₁ else v) (ha2 : a₂ = if c₂ < 4 then n₂ else a₁) (ha3 : a₃ = if c₃ < 4 then n₃ else a₂) :
    Fourth u a₃ := by
  subst ha1 hc1
  have i1 := inv_one hv
  have i2 := inv_step huB hcard i1 h1
  rw [← hc2] at i2
  have i3 := inv_step huB hcard i2 h2
  rw [← hc3, ← ha2] at i3
  have i4 := inv_step huB hcard i3 h3
  rw [← ha3] at i4
  exact i4.fourth

end Cert.Select

end
-- ==== Proof.Chain.lean ====
/- The kernel's first half, read at one row and one lane: the running four smallest entries of each lane, which the
   body updates chunk by chunk, are the chain of `Select.lean`. -/
module

public import proofs.«01_k».proof.Proof.Gen.KernelIdeal.Skeleton
public import proofs.«01_k».proof.Proof.Select

@[expose] public section

set_option maxRecDepth 16384

noncomputable section

open Idealize.ShloMosaic Idealize.ShloMosaic.TcCoe
open Cert.Select

namespace Cert.KernelIdeal.Body

open Cert.KernelIdeal Cert.KernelIdeal.Gen

/-- The fill value of the kernel's masks, as an extended real. -/
abbrev big : EReal := (FloatOps.ofBits (F := Ideal) .f32 0x7149F2CA#32 : Ideal .f32)

/-- Row `r` of a block of masked values. -/
def row (w : Vec Ideal S256x4096 .f32) (r : Fin 256) (q : Fin 4096) : EReal := w (ix2 r q)

/-- The running four smallest of lane `l` of row `r` after `n` chunks. -/
def four (w : Vec Ideal S256x4096 .f32) (r : Fin 256) (l : Fin 128) (n : ℕ) : EReal × EReal × EReal × EReal :=
  chain big (lane (row w r) l) n

/-- One more chunk is one more step. -/
theorem four_succ (w : Vec Ideal S256x4096 .f32) (r : Fin 256) (l : Fin 128) (n : ℕ) :
    four w r l (n + 1) = step (four w r l n) (lane (row w r) l n) := rfl

/-- An entry of a row's lane is the array's entry in that chunk. -/
theorem lane_eq (w : Vec Ideal S256x4096 .f32) (r : Fin 256) (l : Fin 128) (k : ℕ) (hk : k < 32) :
    lane (row w r) l k = w (ix2 r ⟨128 * k + l.val, by omega⟩) := by
  unfold lane row
  rw [dif_pos hk]

/-- The body's statements that take chunks 2 to 9 carry the four smallest after 2 chunks to those after 10. -/
theorem chunks13 (w : Vec Ideal S256x4096 .f32) (r : Fin 256) (l : Fin 128) (v31 v32 v34 v36 v38 : FVec Ideal S256x128 .f32)
    (h : four w r l 2 = (min (v31 (ix2 r l)) (v32 (ix2 r l)), v38 (ix2 r l), v36 (ix2 r l), v34 (ix2 r l))) :
    four w r l 10 = (min ((k0_pay91 w v31 v32) (ix2 r l)) ((k0_pay92 w) (ix2 r l)), min ((k0_pay90 w v31 v32 v38) (ix2 r l)) (max ((k0_pay91 w v31 v32) (ix2 r l)) ((k0_pay92 w) (ix2 r l))), min ((k0_pay89 w v31 v32 v36 v38) (ix2 r l)) (max ((k0_pay90 w v31 v32 v38) (ix2 r l)) ((k0_pay92 w) (ix2 r l))), (k0_pay93 w v31 v32 v34 v36 v38) (ix2 r l)) := by
  simp only [four_succ w r l 9, four_succ w r l 8, four_succ w r l 7, four_succ w r l 6, four_succ w r l 5, four_succ w r l 4, four_succ w r l 3, four_succ w r l 2, step, h]
  simp only [(lane_eq w r l 2 (by decide) : _ = w (ix2 r ⟨256 + l.val, by omega⟩)),
    (lane_eq w r l 3 (by decide) : _ = w (ix2 r ⟨384 + l.val, by omega⟩)),
    (lane_eq w r l 4 (by decide) : _ = w (ix2 r ⟨512 + l.val, by omega⟩)),
    (lane_eq w r l 5 (by decide) : _ = w (ix2 r ⟨640 + l.val, by omega⟩)),
    (lane_eq w r l 6 (by decide) : _ = w (ix2 r ⟨768 + l.val, by omega⟩)),
    (lane_eq w r l 7 (by decide) : _ = w (ix2 r ⟨896 + l.val, by omega⟩)),
    (lane_eq w r l 8 (by decide) : _ = w (ix2 r ⟨1024 + l.val, by omega⟩)),
    (lane_eq w r l 9 (by decide) : _ = w (ix2 r ⟨1152 + l.val, by omega⟩))]
  refine Prod.ext ?_ (Prod.ext ?_ (Prod.ext ?_ ?_)) <;> pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]

/-- The body's statements that take chunks 10 to 16 carry the four smallest after 10 chunks to those after 17. -/
theorem chunks14 (w : Vec Ideal S256x4096 .f32) (r : Fin 256) (l : Fin 128) (v92 v94 v95 v96 v98 : FVec Ideal S256x128 .f32)
    (h : four w r l 10 = (min (v95 (ix2 r l)) (v96 (ix2 r l)), min (v94 (ix2 r l)) (max (v95 (ix2 r l)) (v96 (ix2 r l))), min (v92 (ix2 r l)) (max (v94 (ix2 r l)) (v96 (ix2 r l))), v98 (ix2 r l))) :
    four w r l 17 = (min ((k0_pay120 w v95 v96) (ix2 r l)) ((k0_pay121 w) (ix2 r l)), (k0_pay124 w v94 v95 v96) (ix2 r l), (k0_pay123 w v92 v94 v95 v96) (ix2 r l), (k0_pay122 w v92 v94 v95 v96 v98) (ix2 r l)) := by
  simp only [four_succ w r l 16, four_succ w r l 15, four_succ w r l 14, four_succ w r l 13, four_succ w r l 12, four_succ w r l 11, four_succ w r l 10, step, h]
  simp only [(lane_eq w r l 10 (by decide) : _ = w (ix2 r ⟨1280 + l.val, by omega⟩)),
    (lane_eq w r l 11 (by decide) : _ = w (ix2 r ⟨1408 + l.val, by omega⟩)),
    (lane_eq w r l 12 (by decide) : _ = w (ix2 r ⟨1536 + l.val, by omega⟩)),
    (lane_eq w r l 13 (by decide) : _ = w (ix2 r ⟨1664 + l.val, by omega⟩)),
    (lane_eq w r l 14 (by decide) : _ = w (ix2 r ⟨1792 + l.val, by omega⟩)),
    (lane_eq w r l 15 (by decide) : _ = w (ix2 r ⟨1920 + l.val, by omega⟩)),
    (lane_eq w r l 16 (by decide) : _ = w (ix2 r ⟨2048 + l.val, by omega⟩))]
  refine Prod.ext ?_ (Prod.ext ?_ (Prod.ext ?_ ?_)) <;> pointwise [k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]

/-- The body's statements that take chunks 17 to 24 carry the four smallest after 17 chunks to those after 25. -/
theorem chunks15 (w : Vec Ideal S256x4096 .f32) (r : Fin 256) (l : Fin 128) (v151 v152 v154 v156 v158 : FVec Ideal S256x128 .f32)
    (h : four w r l 17 = (min (v151 (ix2 r l)) (v152 (ix2 r l)), v158 (ix2 r l), v156 (ix2 r l), v154 (ix2 r l))) :
    four w r l 25 = (min ((k0_pay153 w v151 v152) (ix2 r l)) ((k0_pay154 w) (ix2 r l)), min ((k0_pay152 w v151 v152 v158) (ix2 r l)) (max ((k0_pay153 w v151 v152) (ix2 r l)) ((k0_pay154 w) (ix2 r l))), min ((k0_pay151 w v151 v152 v156 v158) (ix2 r l)) (max ((k0_pay152 w v151 v152 v158) (ix2 r l)) ((k0_pay154 w) (ix2 r l))), (k0_pay155 w v151 v152 v154 v156 v158) (ix2 r l)) := by
  simp only [four_succ w r l 24, four_succ w r l 23, four_succ w r l 22, four_succ w r l 21, four_succ w r l 20, four_succ w r l 19, four_succ w r l 18, four_succ w r l 17, step, h]
  simp only [(lane_eq w r l 17 (by decide) : _ = w (ix2 r ⟨2176 + l.val, by omega⟩)),
    (lane_eq w r l 18 (by decide) : _ = w (ix2 r ⟨2304 + l.val, by omega⟩)),
    (lane_eq w r l 19 (by decide) : _ = w (ix2 r ⟨2432 + l.val, by omega⟩)),
    (lane_eq w r l 20 (by decide) : _ = w (ix2 r ⟨2560 + l.val, by omega⟩)),
    (lane_eq w r l 21 (by decide) : _ = w (ix2 r ⟨2688 + l.val, by omega⟩)),
    (lane_eq w r l 22 (by decide) : _ = w (ix2 r ⟨2816 + l.val, by omega⟩)),
    (lane_eq w r l 23 (by decide) : _ = w (ix2 r ⟨2944 + l.val, by omega⟩)),
    (lane_eq w r l 24 (by decide) : _ = w (ix2 r ⟨3072 + l.val, by omega⟩))]
  refine Prod.ext ?_ (Prod.ext ?_ (Prod.ext ?_ ?_)) <;> pointwise [k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]

/-- The body's statements that take chunks 25 to 31 carry the four smallest after 25 chunks to those after 32. -/
theorem chunks16 (w : Vec Ideal S256x4096 .f32) (r : Fin 256) (l : Fin 128) (v212 v214 v215 v216 v218 : FVec Ideal S256x128 .f32)
    (h : four w r l 25 = (min (v215 (ix2 r l)) (v216 (ix2 r l)), min (v214 (ix2 r l)) (max (v215 (ix2 r l)) (v216 (ix2 r l))), min (v212 (ix2 r l)) (max (v214 (ix2 r l)) (v216 (ix2 r l))), v218 (ix2 r l))) :
    four w r l 32 = (min ((k0_pay182 w v215 v216) (ix2 r l)) ((k0_pay183 w) (ix2 r l)), (k0_pay186 w v214 v215 v216) (ix2 r l), (k0_pay185 w v212 v214 v215 v216) (ix2 r l), (k0_pay184 w v212 v214 v215 v216 v218) (ix2 r l)) := by
  simp only [four_succ w r l 31, four_succ w r l 30, four_succ w r l 29, four_succ w r l 28, four_succ w r l 27, four_succ w r l 26, four_succ w r l 25, step, h]
  simp only [(lane_eq w r l 25 (by decide) : _ = w (ix2 r ⟨3200 + l.val, by omega⟩)),
    (lane_eq w r l 26 (by decide) : _ = w (ix2 r ⟨3328 + l.val, by omega⟩)),
    (lane_eq w r l 27 (by decide) : _ = w (ix2 r ⟨3456 + l.val, by omega⟩)),
    (lane_eq w r l 28 (by decide) : _ = w (ix2 r ⟨3584 + l.val, by omega⟩)),
    (lane_eq w r l 29 (by decide) : _ = w (ix2 r ⟨3712 + l.val, by omega⟩)),
    (lane_eq w r l 30 (by decide) : _ = w (ix2 r ⟨3840 + l.val, by omega⟩)),
    (lane_eq w r l 31 (by decide) : _ = w (ix2 r ⟨3968 + l.val, by omega⟩))]
  refine Prod.ext ?_ (Prod.ext ?_ (Prod.ext ?_ ?_)) <;> pointwise [k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]

/-- The first two chunks, from the fills. -/
theorem chunks12 (v3 : Vec Ideal S256x512 .f32) (v6 : Vec Ideal S4096x512 .f32) (v8 : Vec Ideal S1x4096 .f32) (v11 : Vec Ideal S1x4096 .f32)
    (v13 : Vec Ideal S256x1 .f32) (r : Fin 256) (l : Fin 128) :
    four (k0_pay51 v3 v6 v8 v11 v13) r l 2 = (min (k0_pay58 v3 v6 v8 v11 v13 (ix2 r l)) (k0_pay59 v3 v6 v8 v11 v13 (ix2 r l)),
      k0_pay62 v3 v6 v8 v11 v13 (ix2 r l), k0_pay61 v3 v6 v8 v11 v13 (ix2 r l), k0_pay60 v3 v6 v8 v11 v13 (ix2 r l)) := by
  simp only [four_succ _ r l 1, four_succ _ r l 0, step,
    (lane_eq _ r l 0 (by decide) : _ = k0_pay51 v3 v6 v8 v11 v13 (ix2 r ⟨0 + l.val, by omega⟩)),
    (lane_eq _ r l 1 (by decide) : _ = k0_pay51 v3 v6 v8 v11 v13 (ix2 r ⟨128 + l.val, by omega⟩))]
  refine Prod.ext ?_ (Prod.ext ?_ (Prod.ext ?_ ?_)) <;> pointwise [k0_pay52, k0_pay53, k0_pay54, k0_pay55, k0_pay56, k0_pay57, k0_pay58, k0_pay59, k0_pay60, k0_pay61, k0_pay62, four, chain]

end Cert.KernelIdeal.Body

end
-- ==== Proof.Consts.lean ====
/- The float constants of the two programs, as the real numbers their patterns denote, and the kernel's named ones. -/
module

public import proofs.«01_k».proof.KernelIdeal
public import Idealize.ShloMosaic.Lib.Pointwise
public import Idealize.ShloMosaic.Lib.IdealHost

@[expose] public section

noncomputable section

open Idealize.ShloMosaic

namespace Cert.Consts

/-- A finite sum of reals, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The pattern of two. -/
theorem two : Ideal.ofBits .f32 0x40000000#32 = ((2 : ℝ) : EReal) := by
  simp [Ideal.ofBits, Ideal.ieee, -EReal.coe_mul]; norm_num

/-- The pattern of three. -/
theorem three : Ideal.ofBits .f32 0x40400000#32 = ((3 : ℝ) : EReal) := by
  simp [Ideal.ofBits, Ideal.ieee, -EReal.coe_mul]; norm_num

/-- The pattern of four. -/
theorem four : Ideal.ofBits .f32 0x40800000#32 = ((4 : ℝ) : EReal) := by
  simp [Ideal.ofBits, Ideal.ieee, -EReal.coe_mul]; norm_num

/-- The pattern of five. -/
theorem five : Ideal.ofBits .f32 0x40A00000#32 = ((5 : ℝ) : EReal) := by
  simp [Ideal.ofBits, Ideal.ieee, -EReal.coe_mul]; norm_num

/-- The pattern of six. -/
theorem six : Ideal.ofBits .f32 0x40C00000#32 = ((6 : ℝ) : EReal) := by
  simp [Ideal.ofBits, Ideal.ieee, -EReal.coe_mul]; norm_num

/-- The pattern of seven. -/
theorem seven : Ideal.ofBits .f32 0x40E00000#32 = ((7 : ℝ) : EReal) := by
  simp [Ideal.ofBits, Ideal.ieee, -EReal.coe_mul]; norm_num

/-- The pattern of eight. -/
theorem eight : Ideal.ofBits .f32 0x41000000#32 = ((8 : ℝ) : EReal) := by
  simp [Ideal.ofBits, Ideal.ieee, -EReal.coe_mul]; norm_num

/-- The pattern of nine. -/
theorem nine : Ideal.ofBits .f32 0x41100000#32 = ((9 : ℝ) : EReal) := by
  simp [Ideal.ofBits, Ideal.ieee, -EReal.coe_mul]; norm_num

/-- The pattern of twelve. -/
theorem twelve : Ideal.ofBits .f32 0x41400000#32 = ((12 : ℝ) : EReal) := by
  simp [Ideal.ofBits, Ideal.ieee, -EReal.coe_mul]; norm_num

/-- The pattern of `120`. -/
theorem c120 : Ideal.ofBits .f32 0x42F00000#32 = ((120 : ℝ) : EReal) := by
  simp [Ideal.ofBits, Ideal.ieee, -EReal.coe_mul]; norm_num

/-- The pattern of `252`. -/
theorem c252 : Ideal.ofBits .f32 0x437C0000#32 = ((252 : ℝ) : EReal) := by
  simp [Ideal.ofBits, Ideal.ieee, -EReal.coe_mul]; norm_num

/-- The pattern of `4096`. -/
theorem c4096 : Ideal.ofBits .f32 0x45800000#32 = ((4096 : ℝ) : EReal) := by
  simp [Ideal.ofBits, Ideal.ieee, -EReal.coe_mul]; norm_num

/-- The pattern of `1/2`. -/
theorem half : Ideal.ofBits .f32 0x3F000000#32 = ((1 / 2 : ℝ) : EReal) := by
  simp [Ideal.ofBits, Ideal.ieee, -EReal.coe_mul]; norm_num

/-- The pattern of `1/4096`. -/
theorem inv4096 : Ideal.ofBits .f32 0x39800000#32 = ((1 / 4096 : ℝ) : EReal) := by
  simp [Ideal.ofBits, Ideal.ieee, -EReal.coe_mul]; norm_num

/-- The pattern of `-2`. -/
theorem negTwo : Ideal.ofBits .f32 0xC0000000#32 = ((-2 : ℝ) : EReal) := by
  simp [Ideal.ofBits, Ideal.ieee, -EReal.coe_mul, -EReal.coe_neg]; norm_num

/-- The pattern of positive infinity. -/
theorem infty : Ideal.ofBits .f32 0x7F800000#32 = ⊤ := by
  simp [Ideal.ofBits, Ideal.ieee]

/-- The masks' fill, `1e30` rounded, as a real. -/
def bigR : ℝ := 13234890 * 2 ^ 76

/-- The pattern of the masks' fill. -/
theorem big : Ideal.ofBits .f32 0x7149F2CA#32 = ((bigR : ℝ) : EReal) := by
  unfold bigR
  simp [Ideal.ofBits, Ideal.ieee, -EReal.coe_mul]

/-- The offset added to the neighbour counts, `1e-7` rounded, as a real. -/
def epsR : ℝ := 14073749 / 2 ^ 47

/-- The pattern of the offset of the counts. -/
theorem eps : Ideal.ofBits .f32 0x33D6BF95#32 = ((epsR : ℝ) : EReal) := by
  unfold epsR
  simp [Ideal.ofBits, Ideal.ieee, -EReal.coe_mul]; norm_num

/-- The offset under the reference's square root, `1e-12` rounded, as a real. -/
def delR : ℝ := 9223372 / 2 ^ 63

/-- The pattern of the offset under the root. -/
theorem del : Ideal.ofBits .f32 0x2B8CBCCC#32 = ((delR : ℝ) : EReal) := by
  unfold delR
  simp [Ideal.ofBits, Ideal.ieee, -EReal.coe_mul]; norm_num

/-- The constant named `r252`. -/
theorem r252 : (Named.named (F := Ideal) Cert.KernelIdeal.κ "r252" (φ := .f32) 0x3B820821#32 : EReal) = ((1 / 252 : ℝ) : EReal) :=
  IdealRules.named_const.ideal_named_scalar _ _ _ _ rfl

/-- The constant named `r120`. -/
theorem r120 : (Named.named (F := Ideal) Cert.KernelIdeal.κ "r120" (φ := .f32) 0x3C088889#32 : EReal) = ((1 / 120 : ℝ) : EReal) :=
  IdealRules.named_const.ideal_named_scalar _ _ _ _ rfl

/-- The constant named `twelfth`. -/
theorem twelfth : (Named.named (F := Ideal) Cert.KernelIdeal.κ "twelfth" (φ := .f32) 0x3DAAAAAB#32 : EReal) = ((1 / 12 : ℝ) : EReal) :=
  IdealRules.named_const.ideal_named_scalar _ _ _ _ rfl

/-- The constant named `inv_ln2`. -/
theorem inv_ln2 : (Named.named (F := Ideal) Cert.KernelIdeal.κ "inv_ln2" (φ := .f32) 0x3FB8AA3B#32 : EReal) = (((Real.log 2)⁻¹ : ℝ) : EReal) :=
  IdealRules.named_const.ideal_named_scalar _ _ _ _ rfl

end Cert.Consts

end
-- ==== Proof.Rounds.lean ====
/- The kernel's second half, read at one row: the candidates laid side by side, the least of them, three rounds of "the
   least above the current one" with their counts, and the number of the row's entries at or below the anchor found. -/
module

public import proofs.«01_k».proof.Proof.Chain
public import proofs.«01_k».proof.Proof.Consts

@[expose] public section

set_option maxRecDepth 16384

noncomputable section

open Idealize.ShloMosaic Idealize.ShloMosaic.TcCoe
open Cert.Select

namespace Cert.KernelIdeal.Body

open Cert.KernelIdeal Cert.KernelIdeal.Gen

/-- How many of finitely many places have a property, as the sum of ones the programs take. -/
theorem sum_ones {ι : Type} [Fintype ι] (p : ι → Prop) [DecidablePred p] :
    (∑ j, if p j then (1 : EReal) else 0) = ((((Finset.univ.filter p).card : ℕ) : ℝ) : EReal) := by
  rw [Finset.card_filter, Nat.cast_sum, Consts.coe_sum]
  refine Finset.sum_congr rfl fun j _ => ?_
  split <;> simp

variable (v271 v272 v274 v276 v278 : FVec Ideal S256x128 .f32) (r : Fin 256)

/-- The row of candidates. -/
def urow (j : Fin 512) : EReal := k0_pay187 v271 v272 v274 v276 v278 (ix2 r j)

/-- The row of candidates is `Select.lean`'s, when the five carried arrays hold each lane's four smallest. -/
theorem urow_eq (w : Vec Ideal S256x4096 .f32)
    (h : ∀ l, four w r l 32 = (min (v271 (ix2 r l)) (v272 (ix2 r l)), v278 (ix2 r l), v276 (ix2 r l), v274 (ix2 r l))) :
    urow v271 v272 v274 v276 v278 r = cand big (row w r) := by
  funext j
  have hu : urow v271 v272 v274 v276 v278 r j = if h : j.val < 128 then min (v271 (ix2 r ⟨j.val, h⟩)) (v272 (ix2 r ⟨j.val, h⟩))
      else if h1 : j.val - 128 < 128 then v278 (ix2 r ⟨j.val - 128, h1⟩)
      else if h2 : j.val - 128 - 128 < 128 then v276 (ix2 r ⟨j.val - 128 - 128, h2⟩)
      else v274 (ix2 r ⟨j.val - 128 - 128 - 128, by omega⟩) := by
    unfold urow
    pointwise [k0_pay187]
  rw [hu]
  obtain ⟨q, l, rfl⟩ : ∃ (q : Fin 4) (l : Fin 128), j = ⟨128 * q.val + l.val, by omega⟩ :=
    ⟨⟨j.val / 128, by omega⟩, ⟨j.val % 128, by omega⟩, Fin.ext (by dsimp only; omega)⟩
  rw [cand_lane]
  show _ = nth (four w r l 32) q
  rw [h l]
  have hl := l.isLt
  have e : ∀ (n : ℕ) (hn : n < 128), n = l.val → (⟨n, hn⟩ : Fin 128) = l := fun n hn e => Fin.ext e
  match q with
  | ⟨0, _⟩ =>
    rw [dif_pos (by dsimp only; omega), e _ _ (by dsimp only; omega)]; rfl
  | ⟨1, _⟩ =>
    rw [dif_neg (by dsimp only; omega), dif_pos (by dsimp only; omega), e _ _ (by dsimp only; omega)]; rfl
  | ⟨2, _⟩ =>
    rw [dif_neg (by dsimp only; omega), dif_neg (by dsimp only; omega), dif_pos (by dsimp only; omega),
      e _ _ (by dsimp only; omega)]; rfl
  | ⟨3, _⟩ =>
    rw [dif_neg (by dsimp only; omega), dif_neg (by dsimp only; omega), dif_neg (by dsimp only; omega),
      e _ _ (by dsimp only; omega)]; rfl

/-- The least of a row of values. -/
def least (f : Fin 512 → EReal) : EReal := Finset.univ.fold min ⊤ f

/-- What lies below the least lies below every entry. -/
theorem le_least (f : Fin 512 → EReal) (x : EReal) : x ≤ least f ↔ ∀ j, x ≤ f j := by
  unfold least
  rw [Finset.le_fold_min]
  simp

/-- The least candidate above `v`; the fill when there is none. -/
def above (u : Fin 512 → EReal) (v : EReal) : EReal := least fun j => if v < u j then u j else big

/-- How many candidates equal `v`. -/
def num (u : Fin 512 → EReal) (v : EReal) : ℕ := (Finset.univ.filter fun j => u j = v).card

/-- A count, as a float, is below four exactly when it is. -/
theorem lt_four (n : ℕ) : (((n : ℝ) : EReal) < Ideal.ofBits .f32 0x40800000#32) ↔ n < 4 := by
  rw [Consts.four, EReal.coe_lt_coe_iff]
  exact_mod_cast Iff.rfl

/-- The least candidate. -/
theorem pay188_eq : k0_pay188 v271 v272 v274 v276 v278 (ix2 r 0) = least (urow v271 v272 v274 v276 v278 r) := by
  unfold least urow
  pointwise [k0_pay188, Consts.infty]

/-- How often the least candidate occurs. -/
theorem pay189_eq : k0_pay189 v271 v272 v274 v276 v278 (ix2 r 0) = ((num (urow v271 v272 v274 v276 v278 r) (least (urow v271 v272 v274 v276 v278 r)) : ℝ) : EReal) := by
  unfold num
  rw [← sum_ones, ← pay188_eq]
  unfold urow
  pointwise [k0_pay189]

/-- The least candidate above the least. -/
theorem pay190_eq : k0_pay190 v271 v272 v274 v276 v278 (ix2 r 0) = above (urow v271 v272 v274 v276 v278 r) (least (urow v271 v272 v274 v276 v278 r)) := by
  unfold above
  rw [← pay188_eq]
  unfold urow least
  pointwise [k0_pay190, Consts.infty]

/-- The anchor after the first round. -/
theorem pay192_eq : k0_pay192 v271 v272 v274 v276 v278 (ix2 r 0)
    = if num (urow v271 v272 v274 v276 v278 r) (least (urow v271 v272 v274 v276 v278 r)) < 4 then above (urow v271 v272 v274 v276 v278 r) (least (urow v271 v272 v274 v276 v278 r)) else least (urow v271 v272 v274 v276 v278 r) := by
  have h : k0_pay192 v271 v272 v274 v276 v278 (ix2 r 0)
      = if k0_pay189 v271 v272 v274 v276 v278 (ix2 r 0) < Ideal.ofBits .f32 0x40800000#32
        then k0_pay190 v271 v272 v274 v276 v278 (ix2 r 0) else k0_pay188 v271 v272 v274 v276 v278 (ix2 r 0) := by
    pointwise [k0_pay192, k0_pay191]
  rw [h, pay189_eq, pay190_eq, pay188_eq]
  simp only [lt_four]

/-- The count after the first round. -/
theorem pay193_eq : k0_pay193 v271 v272 v274 v276 v278 (ix2 r 0)
    = ((((num (urow v271 v272 v274 v276 v278 r) (least (urow v271 v272 v274 v276 v278 r)) + if num (urow v271 v272 v274 v276 v278 r) (least (urow v271 v272 v274 v276 v278 r)) < 4 then num (urow v271 v272 v274 v276 v278 r) (above (urow v271 v272 v274 v276 v278 r) (least (urow v271 v272 v274 v276 v278 r))) else 0) : ℕ) : ℝ) : EReal) := by
  have h : k0_pay193 v271 v272 v274 v276 v278 (ix2 r 0)
      = k0_pay189 v271 v272 v274 v276 v278 (ix2 r 0)
        + if k0_pay189 v271 v272 v274 v276 v278 (ix2 r 0) < Ideal.ofBits .f32 0x40800000#32
          then (∑ j, if urow v271 v272 v274 v276 v278 r j = k0_pay190 v271 v272 v274 v276 v278 (ix2 r 0) then (1 : EReal) else 0) else 0 := by
    unfold urow
    pointwise [k0_pay193, k0_pay191]
  rw [h, pay189_eq, pay190_eq, sum_ones]
  simp only [lt_four]
  change _ + (if _ then ((num (urow v271 v272 v274 v276 v278 r) (above (urow v271 v272 v274 v276 v278 r) (least (urow v271 v272 v274 v276 v278 r))) : ℝ) : EReal) else 0) = _
  split <;> push_cast <;> simp

/-- The third distinct candidate. -/
theorem pay194_eq : k0_pay194 v271 v272 v274 v276 v278 (ix2 r 0) = above (urow v271 v272 v274 v276 v278 r) (above (urow v271 v272 v274 v276 v278 r) (least (urow v271 v272 v274 v276 v278 r))) := by
  rw [above, ← pay190_eq]
  unfold urow least
  pointwise [k0_pay194, Consts.infty]

/-- How often the third distinct candidate occurs. -/
theorem pay195_eq : k0_pay195 v271 v272 v274 v276 v278 (ix2 r 0) = ((num (urow v271 v272 v274 v276 v278 r) (above (urow v271 v272 v274 v276 v278 r) (above (urow v271 v272 v274 v276 v278 r) (least (urow v271 v272 v274 v276 v278 r)))) : ℝ) : EReal) := by
  unfold num
  rw [← sum_ones, ← pay194_eq]
  unfold urow
  pointwise [k0_pay195]

/-- The last statements of the selection at a row, over whatever the earlier ones left. -/
theorem pay196_apply (v10 : FVec Ideal S256x4096 .f32) (v280 : FVec Ideal S256x512 .f32) (v305 v308 v314 v321 : FVec Ideal S256x1 .f32) :
    k0_pay196 v10 v280 v305 v308 v314 v321 (Scalar.ofBits .f32 0x40800000#32) (ix2 r 0)
    = ((∑ q : Fin 4096, if v10 (ix2 r q) ≤ (if v308 (ix2 r 0) + (if v308 (ix2 r 0) < Ideal.ofBits .f32 0x40800000#32 then v321 (ix2 r 0) else 0)
          < Ideal.ofBits .f32 0x40800000#32 then least (fun j => if v314 (ix2 r 0) < v280 (ix2 r j) then v280 (ix2 r j) else big)
          else if v308 (ix2 r 0) < Ideal.ofBits .f32 0x40800000#32 then v314 (ix2 r 0) else v305 (ix2 r 0)) then (1 : EReal) else 0) - 1)
      + Ideal.ofBits .f32 0x33D6BF95#32 := by
  unfold least
  pointwise [k0_pay196, Consts.infty]

/-- The selection at a row: the anchor is the fourth smallest candidate, and what is left of the row is the number of
    its distances at or below the anchor, less one, plus the offset. -/
theorem pay196_eq (v10 : FVec Ideal S256x4096 .f32) (huB : ∀ j, (urow v271 v272 v274 v276 v278 r) j ≤ big) : ∃ a, (Fourth (urow v271 v272 v274 v276 v278 r) a) ∧
    k0_pay196 v10 (k0_pay187 v271 v272 v274 v276 v278) (k0_pay192 v271 v272 v274 v276 v278) (k0_pay193 v271 v272 v274 v276 v278)
      (k0_pay194 v271 v272 v274 v276 v278) (k0_pay195 v271 v272 v274 v276 v278) (Scalar.ofBits .f32 0x40800000#32) (ix2 r 0)
    = ((((Finset.univ.filter fun q : Fin 4096 => v10 (ix2 r q) ≤ a).card : ℝ) - 1 + Consts.epsR : ℝ) : EReal) := by
  refine ⟨_, rounds (u := (urow v271 v272 v274 v276 v278 r)) (B := big) ?_ (by simp) (le_least (urow v271 v272 v274 v276 v278 r)) (le_least _) (le_least _) (le_least _) rfl rfl rfl rfl rfl rfl, ?_⟩
  · exact huB
  · rw [pay196_apply, pay192_eq, pay193_eq, pay194_eq, pay195_eq, sum_ones, Consts.eps]
    have hc : ∀ n k : ℕ, ((n : ℝ) : EReal) + (if n < 4 then ((k : ℝ) : EReal) else 0) = (((n + if n < 4 then k else 0 : ℕ) : ℝ) : EReal) := by
      intro n k
      split <;> push_cast <;> simp
    simp only [lt_four, hc]
    rw [show (1 : EReal) = ((1 : ℝ) : EReal) from rfl, ← EReal.coe_sub, ← EReal.coe_add]
    rfl

end Cert.KernelIdeal.Body

end
-- ==== Proof.Digamma.lean ====
/- The digamma approximation the two programs compute, each in its own arrangement, and the one real function both are
   at a positive real argument. -/
module

public import Idealize.ShloMosaic.Lib.Pointwise
public import Idealize.ShloMosaic.Lib.IdealHost

@[expose] public section

noncomputable section

open Idealize.ShloMosaic

namespace Cert.Digamma

/-- The recurrence by six and four terms of the asymptotic series, over the reals. -/
def psi (x : ℝ) : ℝ :=
  Real.log (x + 6) - 1 / (2 * (x + 6)) - 1 / (12 * (x + 6) ^ 2) + 1 / (120 * (x + 6) ^ 4) - 1 / (252 * (x + 6) ^ 6)
    - (1 / x + 1 / (x + 1) + 1 / (x + 2) + 1 / (x + 3) + 1 / (x + 4) + 1 / (x + 5))

/-- The series in Horner form at `z`, plus a sum `s`: the kernel's last steps. -/
def kTail (z s : EReal) : EReal :=
  ((Ideal.log z - ((1 / 2 : ℝ) : EReal) * Ideal.div 1 z)
    - Ideal.div 1 z * Ideal.div 1 z * (((1 / 12 : ℝ) : EReal)
        - Ideal.div 1 z * Ideal.div 1 z * (((1 / 120 : ℝ) : EReal) - Ideal.div 1 z * Ideal.div 1 z * ((1 / 252 : ℝ) : EReal)))) + s

/-- The kernel's form: six reciprocals subtracted from zero one after the other, then the tail. -/
def kpsi (x : EReal) : EReal :=
  kTail (x + 1 + 1 + 1 + 1 + 1 + 1)
    (0 - Ideal.div 1 x - Ideal.div 1 (x + 1) - Ideal.div 1 (x + 1 + 1) - Ideal.div 1 (x + 1 + 1 + 1)
      - Ideal.div 1 (x + 1 + 1 + 1 + 1) - Ideal.div 1 (x + 1 + 1 + 1 + 1 + 1))

/-- The reference's form: the terms of the series as quotients, and the six reciprocals as one sum. -/
def rpsi (x : EReal) : EReal :=
  ((((Ideal.log (x + ((6 : ℝ) : EReal)) - Ideal.div 1 (((2 : ℝ) : EReal) * (x + ((6 : ℝ) : EReal))))
      - Ideal.div 1 (((12 : ℝ) : EReal) * ((x + ((6 : ℝ) : EReal)) * (x + ((6 : ℝ) : EReal)))))
      + Ideal.div 1 (((120 : ℝ) : EReal) * (((x + ((6 : ℝ) : EReal)) * (x + ((6 : ℝ) : EReal))) * ((x + ((6 : ℝ) : EReal)) * (x + ((6 : ℝ) : EReal))))))
      - Ideal.div 1 (((252 : ℝ) : EReal) * (((x + ((6 : ℝ) : EReal)) * (x + ((6 : ℝ) : EReal)))
          * (((x + ((6 : ℝ) : EReal)) * (x + ((6 : ℝ) : EReal))) * ((x + ((6 : ℝ) : EReal)) * (x + ((6 : ℝ) : EReal)))))))
    - (∑ k : Fin 6, Ideal.div 1 (x + ((k.val : ℝ) : EReal)))

/-- The reciprocal of a nonzero real. -/
theorem div_one {y : ℝ} (h : y ≠ 0) : Ideal.div 1 (y : EReal) = ((1 / y : ℝ) : EReal) := by
  rw [Ideal.div_coe h, one_mul]

/-- The logarithm of a positive real. -/
theorem log_coe {y : ℝ} (h : 0 < y) : Ideal.log (y : EReal) = ((Real.log y : ℝ) : EReal) := by
  show (if y ≤ 0 then (⊥ : EReal) else (Real.log y : EReal)) = _
  rw [if_neg (not_le.mpr h)]

/-- The kernel's arrangement at a positive real. -/
theorem kpsi_coe {x : ℝ} (hx : 0 < x) : kpsi (x : EReal) = ((psi x : ℝ) : EReal) := by
  have e1 : (x : EReal) + 1 = ((x + 1 : ℝ) : EReal) := by norm_cast
  have e2 : ((x + 1 : ℝ) : EReal) + 1 = ((x + 2 : ℝ) : EReal) := by norm_cast; ring_nf
  have e3 : ((x + 2 : ℝ) : EReal) + 1 = ((x + 3 : ℝ) : EReal) := by norm_cast; ring_nf
  have e4 : ((x + 3 : ℝ) : EReal) + 1 = ((x + 4 : ℝ) : EReal) := by norm_cast; ring_nf
  have e5 : ((x + 4 : ℝ) : EReal) + 1 = ((x + 5 : ℝ) : EReal) := by norm_cast; ring_nf
  have e6 : ((x + 5 : ℝ) : EReal) + 1 = ((x + 6 : ℝ) : EReal) := by norm_cast; ring_nf
  unfold kpsi kTail
  rw [e1, e2, e3, e4, e5, e6, div_one hx.ne', div_one (by positivity : x + 1 ≠ 0), div_one (by positivity : x + 2 ≠ 0),
    div_one (by positivity : x + 3 ≠ 0), div_one (by positivity : x + 4 ≠ 0), div_one (by positivity : x + 5 ≠ 0),
    div_one (by positivity : x + 6 ≠ 0), log_coe (by positivity : 0 < x + 6)]
  rw [show (0 : EReal) = ((0 : ℝ) : EReal) from rfl]
  simp only [← EReal.coe_sub, ← EReal.coe_mul, ← EReal.coe_add]
  congr 1
  unfold psi
  have hz : x + 6 ≠ 0 := by positivity
  have a1 : 1 / (2 * (x + 6)) = 1 / 2 * (1 / (x + 6)) := by field_simp
  have a2 : 1 / (12 * (x + 6) ^ 2) = 1 / 12 * (1 / (x + 6)) ^ 2 := by field_simp
  have a3 : 1 / (120 * (x + 6) ^ 4) = 1 / 120 * (1 / (x + 6)) ^ 4 := by field_simp
  have a4 : 1 / (252 * (x + 6) ^ 6) = 1 / 252 * (1 / (x + 6)) ^ 6 := by field_simp
  rw [a1, a2, a3, a4]
  ring

/-- The reference's arrangement at a positive real. -/
theorem rpsi_coe {x : ℝ} (hx : 0 < x) : rpsi (x : EReal) = ((psi x : ℝ) : EReal) := by
  unfold rpsi
  simp only [Fin.sum_univ_six, ← EReal.coe_add, ← EReal.coe_mul]
  rw [log_coe (by positivity), div_one (by positivity), div_one (by positivity), div_one (by positivity), div_one (by positivity),
    div_one (by simpa using hx.ne'), div_one (by positivity), div_one (by positivity), div_one (by positivity), div_one (by positivity),
    div_one (by positivity)]
  simp only [← EReal.coe_sub, ← EReal.coe_add]
  congr 1
  unfold psi
  have q2 : (x + 6) * (x + 6) = (x + 6) ^ 2 := by ring
  have q4 : (x + 6) ^ 2 * (x + 6) ^ 2 = (x + 6) ^ 4 := by ring
  have q6 : (x + 6) ^ 2 * (x + 6) ^ 4 = (x + 6) ^ 6 := by ring
  rw [q2, q4, q6]
  norm_num

end Cert.Digamma

end
-- ==== Proof.ClassSum.lean ====
/- The class part of the kernel's first grid point: the sum over the ten classes of the class's count times the digamma of
   that count; and the row sums of squares, the block's contribution and the last point's result, each read at an index. -/
module

public import proofs.«01_k».proof.Proof.Rounds
public import proofs.«01_k».proof.Proof.Digamma

@[expose] public section

set_option maxRecDepth 16384

noncomputable section

open Idealize.ShloMosaic Idealize.ShloMosaic.TcCoe
open Cert.Digamma

namespace Cert.KernelIdeal.Body

open Cert.KernelIdeal Cert.KernelIdeal.Gen

/-- The number of labels equal to `c`, as the kernel's sum of ones. -/
def cntK (yf : Vec Ideal S1x4096 .f32) (c : EReal) : EReal := ∑ q : Fin 4096, if yf (ix2 0 q) = c then (1 : EReal) else 0

/-- A class's term: its count times the digamma of its count. -/
def termK (yf : Vec Ideal S1x4096 .f32) (c : EReal) : EReal := cntK yf c * kpsi (cntK yf c)

/-- Class 0's stage. -/
theorem cls0 (yf : Vec Ideal S1x4096 .f32) :
    k0_pay11 (k0_pay5 yf) (k0_pay9 yf) (k0_pay10 yf) (Scalar.ofBits .f32 0x3F800000#32) = termK yf 0 := by
  unfold termK kpsi kTail cntK
  pointwise [k0_pay11, k0_pay9, k0_pay10, k0_pay5, k0_pay6, k0_pay7, k0_pay8, k0_pay4, Consts.half, Consts.r252, Consts.r120, Consts.twelfth]
  simp only [Finset.univ_unique, Finset.sum_singleton]
  rfl

/-- Class 1's stage. -/
theorem cls1 (yf : Vec Ideal S1x4096 .f32) (acc : Ideal .f32) :
    k0_pay18 acc (k0_pay12 yf) (k0_pay15 yf) (k0_pay16 yf) (k0_pay17 yf) = acc + termK yf 1 := by
  unfold termK kpsi kTail cntK
  pointwise [k0_pay12, k0_pay13, k0_pay14, k0_pay15, k0_pay16, k0_pay17, k0_pay18, Consts.half, Consts.r252, Consts.r120, Consts.twelfth]
  simp only [Finset.univ_unique, Finset.sum_singleton]
  rfl

/-- Class 2's stage. -/
theorem cls2 (yf : Vec Ideal S1x4096 .f32) (acc : Ideal .f32) :
    k0_pay23 acc (k0_pay19 yf) (k0_pay21 yf) (k0_pay22 yf) (Scalar.ofBits .f32 0x3F800000#32) = acc + termK yf ((2 : ℝ) : EReal) := by
  unfold termK kpsi kTail cntK
  pointwise [k0_pay19, k0_pay20, k0_pay21, k0_pay22, k0_pay23, Consts.half, Consts.r252, Consts.r120, Consts.twelfth, Consts.two]
  simp only [Finset.univ_unique, Finset.sum_singleton]
  rfl

/-- Class 3's stage. -/
theorem cls3 (yf : Vec Ideal S1x4096 .f32) (acc : Ideal .f32) :
    k0_pay28 acc (k0_pay24 yf) (k0_pay26 yf) (k0_pay27 yf) (Scalar.ofBits .f32 0x3F800000#32) = acc + termK yf ((3 : ℝ) : EReal) := by
  unfold termK kpsi kTail cntK
  pointwise [k0_pay24, k0_pay25, k0_pay26, k0_pay27, k0_pay28, Consts.half, Consts.r252, Consts.r120, Consts.twelfth, Consts.three]
  simp only [Finset.univ_unique, Finset.sum_singleton]
  rfl

/-- Class 4's stage. -/
theorem cls4 (yf : Vec Ideal S1x4096 .f32) (acc : Ideal .f32) :
    k0_pay32 acc (k0_pay29 yf) (k0_pay30 yf) (k0_pay31 yf) = acc + termK yf ((4 : ℝ) : EReal) := by
  unfold termK kpsi kTail cntK
  pointwise [k0_pay29, k0_pay30, k0_pay31, k0_pay32, Consts.half, Consts.r252, Consts.r120, Consts.twelfth, Consts.four]
  simp only [Finset.univ_unique, Finset.sum_singleton]
  rfl

/-- Class 5's stage. -/
theorem cls5 (yf : Vec Ideal S1x4096 .f32) (acc : Ideal .f32) :
    k0_pay36 acc (k0_pay33 yf) (k0_pay34 yf) (k0_pay35 yf) = acc + termK yf ((5 : ℝ) : EReal) := by
  unfold termK kpsi kTail cntK
  pointwise [k0_pay33, k0_pay34, k0_pay35, k0_pay36, Consts.half, Consts.r252, Consts.r120, Consts.twelfth, Consts.five]
  simp only [Finset.univ_unique, Finset.sum_singleton]
  rfl

/-- Class 6's stage. -/
theorem cls6 (yf : Vec Ideal S1x4096 .f32) (acc : Ideal .f32) :
    k0_pay39 acc (k0_pay37 yf) (k0_pay38 yf) (Scalar.ofBits .f32 0x00000000#32) = acc + termK yf ((6 : ℝ) : EReal) := by
  unfold termK kpsi kTail cntK
  pointwise [k0_pay37, k0_pay38, k0_pay39, Consts.half, Consts.r252, Consts.r120, Consts.twelfth, Consts.six]
  simp only [Finset.univ_unique, Finset.sum_singleton]
  rfl

/-- Class 7's stage. -/
theorem cls7 (yf : Vec Ideal S1x4096 .f32) (acc : Ideal .f32) :
    k0_pay41 acc (k0_pay40 yf) = acc + termK yf ((7 : ℝ) : EReal) := by
  unfold termK kpsi kTail cntK
  pointwise [k0_pay40, k0_pay41, Consts.half, Consts.r252, Consts.r120, Consts.twelfth, Consts.seven]
  simp only [Finset.univ_unique, Finset.sum_singleton]
  rfl

/-- Class 8's stage. -/
theorem cls8 (yf : Vec Ideal S1x4096 .f32) (acc : Ideal .f32) :
    k0_pay43 acc (k0_pay42 yf) = acc + termK yf ((8 : ℝ) : EReal) := by
  unfold termK kpsi kTail cntK
  pointwise [k0_pay42, k0_pay43, Consts.half, Consts.r252, Consts.r120, Consts.twelfth, Consts.eight]
  simp only [Finset.univ_unique, Finset.sum_singleton]
  rfl

/-- Class 9's stage. -/
theorem cls9 (yf : Vec Ideal S1x4096 .f32) (acc : Ideal .f32) :
    k0_pay47 acc (k0_pay44 (F := Ideal) yf) k0_pay45 k0_pay46 = acc + termK yf ((9 : ℝ) : EReal) := by
  unfold termK kpsi kTail cntK
  pointwise [k0_pay44, k0_pay45, k0_pay46, k0_pay47, Consts.half, Consts.r252, Consts.r120, Consts.twelfth, Consts.nine]
  simp only [Finset.univ_unique, Finset.sum_singleton]
  rfl

/-- The reshaped label row is the label row. -/
theorem pay4_eq (yf : Vec Ideal S1x4096 .f32) : k0_pay4 yf = yf := by
  funext j
  obtain ⟨p, q, rfl⟩ : ∃ (p : Fin 1) (q : Fin 4096), j = ix2 p q := ⟨j 0, j 1, eq_ix2 j⟩
  obtain rfl : p = 0 := Subsingleton.elim _ _
  pointwise [k0_pay4]

/-- The ten stages' total, as the kernel's stored payload computes it. -/
def clsTot (yf : Vec Ideal S1x4096 .f32) : EReal :=
  k0_pay47 (k0_pay43 (k0_pay41 (k0_pay39 (k0_pay36 (k0_pay32 (k0_pay28 (k0_pay23 (k0_pay18 (k0_pay11 (k0_pay5 yf) (k0_pay9 yf) (k0_pay10 yf)
    (Scalar.ofBits .f32 0x3F800000#32)) (k0_pay12 (k0_pay4 yf)) (k0_pay15 (k0_pay4 yf)) (k0_pay16 (k0_pay4 yf)) (k0_pay17 (k0_pay4 yf)))
    (k0_pay19 (k0_pay4 yf)) (k0_pay21 (k0_pay4 yf)) (k0_pay22 (k0_pay4 yf)) (Scalar.ofBits .f32 0x3F800000#32)) (k0_pay24 (k0_pay4 yf)) (k0_pay26 (k0_pay4 yf)) (k0_pay27 (k0_pay4 yf))
    (Scalar.ofBits .f32 0x3F800000#32)) (k0_pay29 (k0_pay4 yf)) (k0_pay30 (k0_pay4 yf)) (k0_pay31 (k0_pay4 yf))) (k0_pay33 (k0_pay4 yf)) (k0_pay34 (k0_pay4 yf)) (k0_pay35 (k0_pay4 yf)))
    (k0_pay37 (k0_pay4 yf)) (k0_pay38 (k0_pay4 yf)) (Scalar.ofBits .f32 0x00000000#32)) (k0_pay40 (k0_pay4 yf))) (k0_pay42 (k0_pay4 yf))) (k0_pay44 (F := Ideal) (k0_pay4 yf)) k0_pay45 k0_pay46

/-- The total is the sum of the ten terms, in class order. -/
theorem clsTot_eq (yf : Vec Ideal S1x4096 .f32) :
    clsTot yf = termK yf 0 + termK yf 1 + termK yf ((2 : ℝ) : EReal) + termK yf ((3 : ℝ) : EReal) + termK yf ((4 : ℝ) : EReal)
      + termK yf ((5 : ℝ) : EReal) + termK yf ((6 : ℝ) : EReal) + termK yf ((7 : ℝ) : EReal) + termK yf ((8 : ℝ) : EReal)
      + termK yf ((9 : ℝ) : EReal) := by
  unfold clsTot
  rw [pay4_eq, cls9, cls8, cls7, cls6, cls5, cls4, cls3, cls2, cls1, cls0]

/-- The stored class array holds the total in lane 0. -/
theorem pay49_zero (v : Ideal .f32) : k0_pay49 v k0_pay48 (ix2 0 0) = v := by
  pointwise [k0_pay49, k0_pay48]

/-- The row sums of squares. -/
theorem pay3_apply (x1 : Vec Ideal S4096x512 .f32) (q : Fin 4096) :
    k0_pay3 x1 (ix2 0 q) = ∑ k : Fin 512, x1 (ix2 q k) * x1 (ix2 q k) := by
  pointwise [k0_pay3]

/-- The body's comparison value at an entry. -/
theorem pay50_apply (x0 : Vec Ideal S256x512 .f32) (x1 : Vec Ideal S4096x512 .f32) (sq : Vec Ideal S1x4096 .f32) (r : Fin 256) (q : Fin 4096) :
    k0_pay50 x0 x1 sq (ix2 r q) = sq (ix2 0 q) + ∑ k : Fin 512, x0 (ix2 r k) * ((-2 : ℝ) : EReal) * x1 (ix2 q k) := by
  pointwise [k0_pay50, Consts.negTwo]

/-- The body's masked comparison value at an entry: the fill where the labels differ. -/
theorem pay51_apply (x0 : Vec Ideal S256x512 .f32) (x1 : Vec Ideal S4096x512 .f32) (sq yf : Vec Ideal S1x4096 .f32) (yc : Vec Ideal S256x1 .f32)
    (r : Fin 256) (q : Fin 4096) :
    k0_pay51 x0 x1 sq yf yc (ix2 r q) = if yc (ix2 r 0) = yf (ix2 0 q) then k0_pay50 x0 x1 sq (ix2 r q) else ((Consts.bigR : ℝ) : EReal) := by
  rw [pay50_apply]
  pointwise [k0_pay51, k0_pay50, Consts.big, Consts.negTwo]

/-- The first accumulator is zero. -/
theorem pay2_apply (l : Fin 128) : k0_pay2 (F := Ideal) (ix2 0 l) = 0 := by
  pointwise [k0_pay2]

/-- A block's contribution to the accumulator: the digamma of each row's count, added over the block's rows. -/
theorem pay203_apply (v10 : Vec Ideal S256x4096 .f32) (v280 : Vec Ideal S256x512 .f32) (v305 v308 v314 v321 : Vec Ideal S256x1 .f32)
    (c : Ideal .f32) (acc : Vec Ideal S1x128 .f32) (l : Fin 128) :
    k0_pay203 (k0_pay199 v10 v280 v305 v308 v314 v321 c) (k0_pay200 v10 v280 v305 v308 v314 v321 c) k0_pay201 acc (ix2 0 l)
      = acc (ix2 0 l) + ∑ r : Fin 256, kpsi (k0_pay196 v10 v280 v305 v308 v314 v321 c (ix2 r 0)) := by
  unfold kpsi kTail
  generalize hm : k0_pay196 v10 v280 v305 v308 v314 v321 c = m
  unfold k0_pay199 k0_pay200
  unfold k0_pay198
  unfold k0_pay197
  rw [hm]
  pointwise [k0_pay201, k0_pay202, k0_pay203, Consts.half, Consts.r252, Consts.r120, Consts.twelfth]
  simp only [Finset.univ_unique, Finset.sum_singleton]

/-- The last point's result, in every lane. -/
theorem pay1_apply (acc : Vec Ideal S1x128 .f32) (v412 : Vec Ideal S1x1 .f32) (l : Fin 128) :
    k0_pay1 acc v412 (ix2 0 l)
      = max ((((Ideal.ofBits .f32 0x41051512#32 : EReal) - v412 (ix2 0 0) * ((1 / 4096 : ℝ) : EReal)) + Ideal.ofBits .f32 0x3F6C3B98#32
          - acc (ix2 0 0) * ((1 / 4096 : ℝ) : EReal)) * (((Real.log 2)⁻¹ : ℝ) : EReal)) 0 := by
  pointwise [k0_pay1, Consts.inv4096, Consts.inv_ln2]

end Cert.KernelIdeal.Body

end
-- ==== Proof.Block.lean ====
/- One row block of the kernel: the 32 chunks of its candidate selection composed, and its contribution to the accumulator. -/
module

public import proofs.«01_k».proof.Proof.ClassSum
public import proofs.«01_k».proof.Proof.Chain

@[expose] public section

set_option maxRecDepth 16384

noncomputable section

open Idealize.ShloMosaic Idealize.ShloMosaic.TcCoe
open Cert.Digamma Cert.Select

namespace Cert.KernelIdeal.Body

open Cert.KernelIdeal Cert.KernelIdeal.Gen

section Defs

variable {F : FTy → Type} [FloatOps F] [Named F]

/-- The five arrays the last chunk leaves, handed to `k`. -/
def blkU {R : Type} (x0 : Vec F S256x512 .f32) (x1 : Vec F S4096x512 .f32) (sq yf : Vec F S1x4096 .f32) (yc : Vec F S256x1 .f32)
    (k : FVec F S256x128 .f32 → FVec F S256x128 .f32 → FVec F S256x128 .f32 → FVec F S256x128 .f32 → FVec F S256x128 .f32 → R) : R :=
  let w := k0_pay51 x0 x1 sq yf yc
  let v31 := k0_pay58 x0 x1 sq yf yc
  let v32 := k0_pay59 x0 x1 sq yf yc
  let v34 := k0_pay60 x0 x1 sq yf yc
  let v36 := k0_pay61 x0 x1 sq yf yc
  let v38 := k0_pay62 x0 x1 sq yf yc
  let v92 := k0_pay89 w v31 v32 v36 v38
  let v94 := k0_pay90 w v31 v32 v38
  let v95 := k0_pay91 w v31 v32
  let v96 := k0_pay92 w
  let v98 := k0_pay93 w v31 v32 v34 v36 v38
  let v151 := k0_pay120 w v95 v96
  let v152 := k0_pay121 w
  let v154 := k0_pay122 w v92 v94 v95 v96 v98
  let v156 := k0_pay123 w v92 v94 v95 v96
  let v158 := k0_pay124 w v94 v95 v96
  let v212 := k0_pay151 w v151 v152 v156 v158
  let v214 := k0_pay152 w v151 v152 v158
  let v215 := k0_pay153 w v151 v152
  let v216 := k0_pay154 w
  let v218 := k0_pay155 w v151 v152 v154 v156 v158
  k (k0_pay182 w v215 v216) (k0_pay183 w) (k0_pay184 w v212 v214 v215 v216 v218) (k0_pay185 w v212 v214 v215 v216)
    (k0_pay186 w v214 v215 v216)

/-- The accumulator after a row block, before it is stored. -/
def blkAcc' (x0 : Vec F S256x512 .f32) (x1 : Vec F S4096x512 .f32) (sq yf : Vec F S1x4096 .f32) (yc : Vec F S256x1 .f32) (acc : Vec F S1x128 .f32) :
    Vec F S1x128 .f32 :=
  blkU x0 x1 sq yf yc fun a b d e f => k0_pay202 (k0_pay199 (k0_pay50 x0 x1 sq) (k0_pay187 a b d e f) (k0_pay192 a b d e f) (k0_pay193 a b d e f) (k0_pay194 a b d e f) (k0_pay195 a b d e f) (Scalar.ofBits .f32 0x40800000#32)) (k0_pay200 (k0_pay50 x0 x1 sq) (k0_pay187 a b d e f) (k0_pay192 a b d e f) (k0_pay193 a b d e f) (k0_pay194 a b d e f) (k0_pay195 a b d e f) (Scalar.ofBits .f32 0x40800000#32)) k0_pay201 acc

/-- The accumulator a row block stores. -/
def blkAcc (x0 : Vec F S256x512 .f32) (x1 : Vec F S4096x512 .f32) (sq yf : Vec F S1x4096 .f32) (yc : Vec F S256x1 .f32) (acc : Vec F S1x128 .f32) :
    Vec F S1x128 .f32 :=
  blkU x0 x1 sq yf yc fun a b d e f => k0_pay203 (k0_pay199 (k0_pay50 x0 x1 sq) (k0_pay187 a b d e f) (k0_pay192 a b d e f) (k0_pay193 a b d e f) (k0_pay194 a b d e f) (k0_pay195 a b d e f) (Scalar.ofBits .f32 0x40800000#32)) (k0_pay200 (k0_pay50 x0 x1 sq) (k0_pay187 a b d e f) (k0_pay192 a b d e f) (k0_pay193 a b d e f) (k0_pay194 a b d e f) (k0_pay195 a b d e f) (Scalar.ofBits .f32 0x40800000#32)) k0_pay201 acc

end Defs

/-- The composed chunks hold, per row and lane, the four smallest masked entries. -/
theorem blkU_spec (x0 : Vec Ideal S256x512 .f32) (x1 : Vec Ideal S4096x512 .f32) (sq yf : Vec Ideal S1x4096 .f32) (yc : Vec Ideal S256x1 .f32) :
    ∃ a b d e f, (∀ (R : Type) k, blkU (R := R) x0 x1 sq yf yc k = k a b d e f) ∧
      ∀ r l, four (k0_pay51 x0 x1 sq yf yc) r l 32 = (min (a (ix2 r l)) (b (ix2 r l)), f (ix2 r l), e (ix2 r l), d (ix2 r l)) := by
  refine ⟨_, _, _, _, _, fun R k => rfl, fun r l => ?_⟩
  exact chunks16 _ r l _ _ _ _ _ (chunks15 _ r l _ _ _ _ _ (chunks14 _ r l _ _ _ _ _ (chunks13 _ r l _ _ _ _ _ (chunks12 x0 x1 sq yf yc r l))))

/-- The stored accumulator is the computed one. -/
theorem blkAcc_eq (x0 : Vec Ideal S256x512 .f32) (x1 : Vec Ideal S4096x512 .f32) (sq yf : Vec Ideal S1x4096 .f32) (yc : Vec Ideal S256x1 .f32)
    (acc : Vec Ideal S1x128 .f32) (l : Fin 128) : blkAcc' x0 x1 sq yf yc acc (ix2 0 l) = blkAcc x0 x1 sq yf yc acc (ix2 0 l) := by
  obtain ⟨a, b, d, e, f, hk, -⟩ := blkU_spec x0 x1 sq yf yc
  unfold blkAcc blkAcc'
  rw [hk, hk]
  pointwise [k0_pay203]

/-- WHAT A ROW BLOCK ADDS: for each row some value `a r` with fewer than four masked entries below it and at least four at or below it, and the
    digamma of the number of unmasked entries at or below it, less one and plus the rounding term. -/
theorem blkAcc_apply (x0 : Vec Ideal S256x512 .f32) (x1 : Vec Ideal S4096x512 .f32) (sq yf : Vec Ideal S1x4096 .f32) (yc : Vec Ideal S256x1 .f32)
    (hw : ∀ r q, row (k0_pay51 x0 x1 sq yf yc) r q ≤ big) :
    ∃ a : Fin 256 → EReal, (∀ r, Fourth (row (k0_pay51 x0 x1 sq yf yc) r) (a r)) ∧ ∀ acc l,
      blkAcc x0 x1 sq yf yc acc (ix2 0 l) = acc (ix2 0 l) + ∑ r : Fin 256,
        kpsi ((((Finset.univ.filter fun q : Fin 4096 => k0_pay50 x0 x1 sq (ix2 r q) ≤ a r).card : ℝ) - 1 + Consts.epsR : ℝ) : EReal) := by
  obtain ⟨a, b, d, e, f, hk, hf⟩ := blkU_spec x0 x1 sq yf yc
  have key : ∀ r, _ := fun r => pay196_eq a b d e f r (k0_pay50 x0 x1 sq) (by
    rw [urow_eq a b d e f r _ (hf r)]
    exact fun j => cand_le _ j)
  choose t ht hm using key
  refine ⟨t, fun r => fourth_of_cand (hw r) (urow_eq a b d e f r _ (hf r) ▸ ht r), fun acc l => ?_⟩
  unfold blkAcc
  rw [hk, pay203_apply]
  exact congrArg _ (Finset.sum_congr rfl fun r _ => congrArg kpsi (hm r))

end Cert.KernelIdeal.Body

end
-- ==== Proof.BodyVals.lean ====
/- What each of the three cases of the kernel body leaves in the scratch it carries and in its output, as the payloads compose. -/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Body

open Cert.KernelIdeal Cert.KernelIdeal.Gen

variable (c : Dev nD) (i : grid0.Coords) (arg1 : Memref sig .tc .vmem S256x512 .f32) (harg1 : arg1.IsWhole) (arg2 : Memref sig .tc .vmem S4096x512 .f32) (harg2 : arg2.IsWhole) (arg3 : Memref sig .tc .vmem S256x1 .f32) (harg3 : arg3.IsWhole) (arg4 : Memref sig .tc .vmem S1x4096 .f32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x128 .f32) (harg7 : arg7.IsWhole) (arg8 : Memref sig .tc .vmem S1x128 .f32) (harg8 : arg8.IsWhole)
    (x0 : Vec Ideal S256x512 .f32) (x1 : Vec Ideal S4096x512 .f32) (x2 : Vec Ideal S256x1 .f32) (x3 : Vec Ideal S1x4096 .f32) (xs0 : Vec Ideal S1x4096 .f32) (xs1 : Vec Ideal S1x128 .f32) (xs2 : Vec Ideal S1x128 .f32)

/-- The first point stores the row sums of squares. -/
theorem sqf_A (hc0 : cond0_0 i) (hc1 : ¬cond0_1 i) : sout0_A_0 c i arg1 harg1 arg2 harg2 arg3 harg3 arg4 harg4 arg5 harg5 arg6 harg6 arg7 harg7 arg8 harg8 hc0 hc1 x0 x1 x2 x3 = k0_pay3 x1 := by
  unfold sout0_A_0
  frame_out
  rfl

/-- The first point stores the class total. -/
theorem cls_A (hc0 : cond0_0 i) (hc1 : ¬cond0_1 i) : sout0_A_1 c i arg1 harg1 arg2 harg2 arg3 harg3 arg4 harg4 arg5 harg5 arg6 harg6 arg7 harg7 arg8 harg8 hc0 hc1 x0 x1 x2 x3 = k0_pay49 (F := Ideal) (clsTot x3) k0_pay48 := by
  unfold sout0_A_1
  frame_out
  rfl

/-- The first point's accumulator. -/
theorem acc_A (hc0 : cond0_0 i) (hc1 : ¬cond0_1 i) : sout0_A_2 c i arg1 harg1 arg2 harg2 arg3 harg3 arg4 harg4 arg5 harg5 arg6 harg6 arg7 harg7 arg8 harg8 hc0 hc1 x0 x1 x2 x3 = blkAcc x0 x1 (k0_pay3 x1) x3 x2 (k0_pay2 (F := Ideal)) := by
  unfold sout0_A_2
  frame_out
  rfl

/-- A middle point's accumulator. -/
theorem acc_B (hc0 : ¬cond0_0 i) (hc1 : ¬cond0_1 i) : sout0_B_2 c i arg1 harg1 arg2 harg2 arg3 harg3 arg4 harg4 arg5 harg5 arg6 harg6 arg7 harg7 arg8 harg8 hc0 hc1 x0 x1 x2 x3 xs0 xs1 xs2 = blkAcc x0 x1 xs0 x3 x2 xs2 := by
  unfold sout0_B_2
  frame_out
  rfl

/-- The last point's output. -/
theorem out_C (hc0 : ¬cond0_0 i) (hc1 : cond0_1 i) : out0_C_4 c i arg1 harg1 arg2 harg2 arg3 harg3 arg4 harg4 arg5 harg5 arg6 harg6 arg7 harg7 arg8 harg8 hc0 hc1 x0 x1 x2 x3 xs0 xs1 xs2 = k0_pay1 (blkAcc' x0 x1 xs0 x3 x2 xs2) (fun _ => xs1 (ix2 0 0)) := by
  unfold out0_C_4
  frame_out
  refine congrArg₂ k0_pay1 rfl ?_
  funext x
  refine congrArg xs1 (funext fun a => Fin.ext ?_)
  have hx : ∀ a, (x a).val = 0 := fun a => by
    have := (x a).isLt
    fin_cases a <;> exact Nat.lt_one_iff.mp this
  fin_cases a <;> simp [hx]

end Cert.KernelIdeal.Body

end
-- ==== Proof.Fold.lean ====
/- The kernel's sixteen grid points folded: its result, as one formula of the two arguments. -/
module

public import proofs.«01_k».proof.Proof.Blocks
public import proofs.«01_k».proof.Proof.BodyVals

@[expose] public section

set_option maxRecDepth 16384

noncomputable section

open Idealize.ShloMosaic Idealize.ShloMosaic.TcCoe Idealize.SL.Sem
open Cert.Digamma Cert.Select

namespace Cert.KernelIdeal.Body

open Cert.KernelIdeal Cert.KernelIdeal.Gen Cert.KernelIdeal.Value

/-- The kernel's squared distance from sample `i` to sample `q`, less `i`'s own squared norm. -/
def dK (X : Vec Ideal S4096x512 .f32) (i q : Fin 4096) : EReal :=
  (∑ k : Fin 512, X (ix2 q k) * X (ix2 q k)) + ∑ k : Fin 512, X (ix2 i k) * ((-2 : ℝ) : EReal) * X (ix2 q k)

/-- It, kept within `i`'s class. -/
def wK (X : Vec Ideal S4096x512 .f32) (y : Vec Ideal S4096 .i32) (i q : Fin 4096) : EReal :=
  if (((y (ix1 i)).toInt : ℝ) : EReal) = (((y (ix1 q)).toInt : ℝ) : EReal) then dK X i q else ((Consts.bigR : ℝ) : EReal)

/-- The digamma of a row's count at threshold `a`. -/
def psiK (X : Vec Ideal S4096x512 .f32) (i : Fin 4096) (a : EReal) : EReal :=
  kpsi ((((Finset.univ.filter fun q : Fin 4096 => dK X i q ≤ a).card : ℝ) - 1 + Consts.epsR : ℝ) : EReal)

variable (m : (ℓ : Loc nD τ sig) → Buf (Elt Ideal) ℓ) (c : Dev nD)

/-- The label row, at every point. -/
def yrow : Vec Ideal S1x4096 .f32 := fun j => (((argY m c (ix1 (j 1))).toInt : ℝ) : EReal)

/-- The label row is the same block at every point. -/
theorem iblk_3_eq (t : Fin cfg0.N) : iblk m c 3 t = yrow m c := by
  funext j
  obtain ⟨p, q, rfl⟩ : ∃ (p : Fin 1) (q : Fin 4096), j = ix2 p q := ⟨j 0, j 1, eq_ix2 j⟩
  obtain rfl : p = 0 := Subsingleton.elim _ _
  exact iblk_3 m c t q

/-- A point's masked block, row by row. -/
theorem row_eq (t : Fin cfg0.N) (r : Fin 256) (h : 256 * t.val + r.val < 4096) :
    row (k0_pay51 (iblk m c 0 t) (argX m c) (k0_pay3 (argX m c)) (yrow m c) (iblk m c 2 t)) r
      = wK (argX m c) (argY m c) ⟨256 * t.val + r.val, h⟩ := by
  funext q
  unfold row wK dK yrow
  rw [pay51_apply, pay50_apply, pay3_apply, iblk_2 m c t r h]
  simp only [iblk_0 m c t r _ h]
  rfl

/-- A point's row is a row of the array. -/
theorem pt_lt (t : Fin cfg0.N) (r : Fin 256) : 256 * t.val + r.val < 4096 := by
  have := lt_of_lt_of_eq t.isLt (show cfg0.N = 16 from N_0)
  omega

section

variable (hB : ∀ i q, wK (argX m c) (argY m c) i q ≤ ((Consts.bigR : ℝ) : EReal))

include hB

/-- A point's contribution, with the thresholds it finds. -/
theorem point (t : Fin cfg0.N) : ∃ a : Fin 256 → EReal, (∀ r, Fourth (wK (argX m c) (argY m c) ⟨256 * t.val + r.val, pt_lt t r⟩) (a r)) ∧
    ∀ acc l, blkAcc (iblk m c 0 t) (argX m c) (k0_pay3 (argX m c)) (yrow m c) (iblk m c 2 t) acc (ix2 0 l)
      = acc (ix2 0 l) + ∑ r : Fin 256, psiK (argX m c) ⟨256 * t.val + r.val, pt_lt t r⟩ (a r) := by
  obtain ⟨a, ha, h⟩ := blkAcc_apply (iblk m c 0 t) (argX m c) (k0_pay3 (argX m c)) (yrow m c) (iblk m c 2 t) (fun r q => by
    rw [row_eq m c t r (pt_lt t r)]
    exact (hB _ q).trans Consts.big.symm.le)
  refine ⟨a, fun r => row_eq m c t r (pt_lt t r) ▸ ha r, fun acc l => ?_⟩
  rw [h]
  refine congrArg _ (Finset.sum_congr rfl fun r _ => ?_)
  unfold psiK dK
  simp only [pay50_apply, pay3_apply, iblk_0 m c t r _ (pt_lt t r)]

/-- Every row has its threshold. -/
theorem exists_fourth (i : Fin 4096) : ∃ a, Fourth (wK (argX m c) (argY m c) i) a := by
  obtain ⟨a, ha, -⟩ := point m c hB ⟨i.val / 256, by rw [show cfg0.N = 16 from N_0]; omega⟩
  have h := ha ⟨i.val % 256, Nat.mod_lt _ (by decide)⟩
  have e : (⟨256 * (i.val / 256) + i.val % 256, by omega⟩ : Fin 4096) = i := Fin.ext (by dsimp only; omega)
  exact ⟨_, e ▸ h⟩

variable (A : Fin 4096 → EReal) (hA : ∀ i, Fourth (wK (argX m c) (argY m c) i) (A i))

/-- A point's summand. -/
def part (X : Vec Ideal S4096x512 .f32) (A : Fin 4096 → EReal) (t : ℕ) : EReal :=
  ∑ r : Fin 256, if h : 256 * t + r.val < 4096 then psiK X ⟨256 * t + r.val, h⟩ (A ⟨256 * t + r.val, h⟩) else 0

include hA

/-- What a point adds to the accumulator, with the rows' thresholds given. -/
theorem point_apply (t : Fin cfg0.N) (acc : Vec Ideal S1x128 .f32) (l : Fin 128) :
    blkAcc (iblk m c 0 t) (argX m c) (k0_pay3 (argX m c)) (yrow m c) (iblk m c 2 t) acc (ix2 0 l) = acc (ix2 0 l) + part (argX m c) A t.val := by
  obtain ⟨a, ha, h⟩ := point m c hB t
  rw [h]
  refine congrArg _ (Finset.sum_congr rfl fun r _ => ?_)
  rw [dif_pos (pt_lt t r), (ha r).unique (hA ⟨256 * t.val + r.val, pt_lt t r⟩)]

/-- What the carried scratch holds after point `n`, before the last. -/
theorem carried : ∀ (n : ℕ) (hn : n < cfg0.N), n ≤ 14 →
    (outsAt0 m c n hn).2.1 = k0_pay3 (argX m c) ∧ (outsAt0 m c n hn).2.2.1 = k0_pay49 (F := Ideal) (clsTot (yrow m c)) k0_pay48 ∧
      ∀ l : Fin 128, (outsAt0 m c n hn).2.2.2 (ix2 0 l) = ∑ t ∈ Finset.range (n + 1), part (argX m c) A t
  | 0, hn, _ => by
    rw [outsAt0_zero, stAt0_A m c ⟨0, hn⟩ _ (Nat.zero_mod _) (by dsimp only; omega)]
    dsimp only
    rw [sqf_A, cls_A, acc_A, iblk_1, iblk_3_eq]
    refine ⟨rfl, rfl, fun l => ?_⟩
    rw [point_apply m c hB A hA, pay2_apply, zero_add, Finset.sum_range_one]
  | n + 1, hn, h14 => by
    obtain ⟨h1, h2, h3⟩ := carried n (Nat.lt_of_succ_lt hn) (by omega)
    rw [outsAt0_succ, stAt0_B m c ⟨n + 1, hn⟩ _ (by dsimp only; omega) (by dsimp only; omega)]
    dsimp only
    rw [acc_B, iblk_1, iblk_3_eq]
    refine ⟨h1, h2, fun l => ?_⟩
    rw [h1, point_apply m c hB A hA, h3, Finset.sum_range_succ _ (n + 1)]

/-- The points' summands are the rows'. -/
theorem parts : ∑ t ∈ Finset.range 16, part (argX m c) A t = ∑ i, psiK (argX m c) i (A i) := by
  rw [sum_split 16 256 4096 rfl _ (fun k l => by omega), Finset.sum_comm, Finset.sum_range]
  refine Finset.sum_congr rfl fun t _ => Finset.sum_congr rfl fun r _ => ?_
  rw [dif_pos (by omega)]

/-- THE KERNEL'S RESULT, every lane. -/
theorem result (l : Fin 128) : G4 m c (ix2 0 l)
    = max ((((Ideal.ofBits .f32 0x41051512#32 : EReal) - clsTot (yrow m c) * ((1 / 4096 : ℝ) : EReal)) + Ideal.ofBits .f32 0x3F6C3B98#32
          - (∑ i, psiK (argX m c) i (A i)) * ((1 / 4096 : ℝ) : EReal)) * (((Real.log 2)⁻¹ : ℝ) : EReal)) 0 := by
  have h15 : 15 < cfg0.N := by rw [show cfg0.N = 16 from N_0]; decide
  obtain ⟨h1, h2, h3⟩ := carried m c hB A hA 14 (by omega) le_rfl
  have e : G4 m c = (outsAt0 m c 15 h15).1 := by
    rw [G4_last, outsAt0_sweep]
  rw [e, outsAt0_succ, stAt0_C m c ⟨15, h15⟩ _ (by dsimp only; omega) (by dsimp only)]
  dsimp only
  rw [out_C, pay1_apply, blkAcc_eq, iblk_1, iblk_3_eq, h1, h2, point_apply m c hB A hA, h3, pay49_zero,
    ← Finset.sum_range_succ, parts m c hB A hA]

end

end Cert.KernelIdeal.Body

end
-- ==== Proof.TopK.lean ====
/- The reference's fourth-nearest entry: the last of the four greatest of the negated row, negated again. -/
module

public import proofs.«01_k».proof.Proof.Select
public import Idealize.ShloMosaic.Lib.SortFacts
public import Idealize.ShloMosaic.Lib.Pointwise
public import Idealize.ShloMosaic.PureOps.Ideal

@[expose] public section

set_option maxRecDepth 16384

noncomputable section

open Idealize.ShloMosaic Idealize.ShloMosaic.TcCoe
open Cert.Select

namespace Cert.TopK

/-- Along a permutation that sorts `w` upward, the value at position 3 has fewer than four below it and four at or below it. -/
theorem fourth_of_sorted (w : Fin 4096 → EReal) (π : Fin 4096 → Fin 4096) (hinj : Function.Injective π) (hsur : Function.Surjective π)
    (hmono : ∀ a b : Fin 4096, a < b → w (π a) ≤ w (π b)) : Fourth w (w (π 3)) := by
  have key : ∀ (n : ℕ), (Finset.univ.filter fun k : Fin 4096 => k.val < n ∧ k.val < 4).card = min n 4 := by
    intro n
    rw [show (Finset.univ.filter fun k : Fin 4096 => k.val < n ∧ k.val < 4) = Finset.Iio (⟨min n 4, by omega⟩ : Fin 4096) from by
      ext k
      simp only [Finset.mem_filter, Finset.mem_univ, true_and, Finset.mem_Iio, Fin.lt_def]
      omega]
    exact Fin.card_Iio _
  refine ⟨?_, ?_⟩
  · have : (Finset.univ.filter fun j => w j < w (π 3)) ⊆ (Finset.univ.filter fun k : Fin 4096 => k.val < 3 ∧ k.val < 4).image π := by
      intro j hj
      obtain ⟨k, rfl⟩ := hsur j
      refine Finset.mem_image_of_mem _ (Finset.mem_filter.2 ⟨Finset.mem_univ _, ?_⟩)
      have hlt := (Finset.mem_filter.1 hj).2
      have h3 : k.val < 3 := by
        by_contra hk
        rcases Nat.lt_or_eq_of_le (not_lt.1 hk) with h | h
        · exact absurd (hmono 3 k (by rw [Fin.lt_def]; exact h)) (not_le.2 hlt)
        · rw [show k = 3 from Fin.ext h.symm] at hlt
          exact lt_irrefl _ hlt
      omega
    exact lt_of_le_of_lt ((Finset.card_le_card this).trans Finset.card_image_le) (by rw [key]; decide)
  · have : (Finset.univ.filter fun k : Fin 4096 => k.val < 4 ∧ k.val < 4).image π ⊆ Finset.univ.filter fun j => w j ≤ w (π 3) := by
      intro j hj
      obtain ⟨k, hk, rfl⟩ := Finset.mem_image.1 hj
      refine Finset.mem_filter.2 ⟨Finset.mem_univ _, ?_⟩
      have hk4 := (Finset.mem_filter.1 hk).2.1
      rcases Nat.lt_or_eq_of_le (Nat.le_of_lt_succ hk4) with h | h
      · exact hmono k 3 (by rw [Fin.lt_def]; exact h)
      · exact le_of_eq (congrArg (fun k => w (π k)) (Fin.ext h))
    refine le_trans ?_ (Finset.card_le_card this)
    rw [Finset.card_image_of_injective _ hinj, key]
    decide

/-- Moving an index of a matrix along its row. -/
theorem along_ix2 {m n : ℕ} (i : Fin m) (p k : Fin n) : (ix2 i p : (⟨2, ![m, n]⟩ : Shape).Idx).along (1 : Fin 2) k = ix2 i k := by
  funext a
  fin_cases a <;> rfl

/-- A row-wise sort of two operands, read at an index. -/
theorem sort2_apply {m n : ℕ} {β : Type} (cmp : EReal × β → EReal × β → BitVec 1) (x : (⟨2, ![m, n]⟩ : Shape).Idx → EReal)
    (y : (⟨2, ![m, n]⟩ : Shape).Idx → β) (i : Fin m) (p : Fin n) :
    (Host.sort2 (⟨2, ![m, n]⟩ : Shape) 1 cmp x y).1 (ix2 i p)
      = x (ix2 i (sortedFrom (fun k k' => cmp (x (ix2 i k), y (ix2 i k)) (x (ix2 i k'), y (ix2 i k')) == 1#1) p)) := by
  have h : (Host.sort2 (⟨2, ![m, n]⟩ : Shape) 1 cmp x y).1 (ix2 i p)
      = x ((ix2 i p : (⟨2, ![m, n]⟩ : Shape).Idx).along (1 : Fin 2) (sortedFrom (fun k k' : Fin n =>
        cmp (x ((ix2 i p : (⟨2, ![m, n]⟩ : Shape).Idx).along (1 : Fin 2) k), y ((ix2 i p : (⟨2, ![m, n]⟩ : Shape).Idx).along (1 : Fin 2) k))
          (x ((ix2 i p : (⟨2, ![m, n]⟩ : Shape).Idx).along (1 : Fin 2) k'), y ((ix2 i p : (⟨2, ![m, n]⟩ : Shape).Idx).along (1 : Fin 2) k')) == 1#1) p)) := rfl
  rw [h]
  simp only [along_ix2]
  exact congrArg x (along_ix2 i p _)

/-- The leading columns of a row-wise descending sort, read at an index. -/
theorem topK_apply {m n l : ℕ} (gt : EReal → EReal → BitVec 1) (x : (⟨2, ![m, n]⟩ : Shape).Idx → EReal) (i : Fin m) (p : Fin l) (hp : p.val < n)
    (h : (⟨2, ![m, n]⟩ : Shape).Slices (fun _ => 0) (⟨2, ![m, l]⟩ : Shape)) :
    (Host.topK (⟨2, ![m, l]⟩ : Shape) 1 gt x h).1 (ix2 i p)
      = x (ix2 i (sortedFrom (fun k k' => gt (x (ix2 i k)) (x (ix2 i k')) == 1#1) ⟨p.val, hp⟩)) := by
  refine Eq.trans ?_ (sort2_apply (fun l r => gt l.1 r.1) x
    (fun i => if hd : 1 < (⟨2, ![m, n]⟩ : Shape).rank then iotaInDim (⟨2, ![m, n]⟩ : Shape) 32 ⟨1, hd⟩ i else 0#32) i ⟨p.val, hp⟩)
  unfold Host.topK extractStridedSlice
  dsimp only
  refine congrArg (Prod.fst (Host.sort2 _ _ _ _ _)) (funext fun a => Fin.ext ?_)
  fin_cases a
  · exact Nat.zero_add _
  · exact Nat.zero_add _

/-- The reference's anchor of a row of negated entries. -/
theorem topK_fourth (x : Vec Ideal (⟨2, ![4096, 4096]⟩ : Shape) .f32) (i : Fin 4096) (w : Fin 4096 → EReal) (hx : ∀ q, x (ix2 i q) = - w q)
    (h : (⟨2, ![4096, 4096]⟩ : Shape).Slices (fun _ => 0) (⟨2, ![4096, 4]⟩ : Shape)) :
    Fourth w (-((Host.topK (⟨2, ![4096, 4]⟩ : Shape) 1 (FloatOps.cmpfTotal (F := Ideal) (φ := .f32) .gt) x h).1 (ix2 i 3))) := by
  have hg : ∀ a b : EReal, (FloatOps.cmpfTotal (F := Ideal) (φ := .f32) .gt a b == 1#1) = decide (b < a) := by
    intro a b
    show ((BitVec.ofBool (decide (b < a))) == 1#1) = _
    by_cases hab : b < a <;> simp [hab]
  let R : Fin 4096 → Fin 4096 → Bool := fun k k' => decide (w k < w k')
  have he : (Host.topK (⟨2, ![4096, 4]⟩ : Shape) 1 (FloatOps.cmpfTotal (F := Ideal) (φ := .f32) .gt) x h).1 (ix2 i 3) = x (ix2 i (sortedFrom R 3)) := by
    refine (topK_apply _ x i 3 (by decide) h).trans ?_
    have hR : (fun k k' : Fin 4096 => FloatOps.cmpfTotal (F := Ideal) (φ := .f32) .gt (x (ix2 i k)) (x (ix2 i k')) == 1#1) = R := by
      funext k k'
      rw [hg, hx, hx]
      simp only [R, EReal.neg_lt_neg_iff]
    exact congrArg (fun f : Fin 4096 → Fin 4096 → Bool => x (ix2 i (sortedFrom f 3))) hR
  rw [he, hx, neg_neg]
  refine fourth_of_sorted w _ (sortedFrom_injective R) (sortedFrom_surjective R) fun a b hab => ?_
  have := sortedFrom_noInversion R R (by simp only [R, decide_eq_true_eq, decide_eq_false_iff_not, not_lt]; exact fun a b h => h.le)
    (fun _ _ h => h)
    (by simp only [R, decide_eq_false_iff_not, not_lt]; exact fun a b c h1 h2 => h2.trans h1) a b hab
  simpa [R] using this

end Cert.TopK

end
-- ==== Proof.RefRead.lean ====
/- The reference's named arrays, read at an index. -/
module

public import proofs.«01_k».proof.Proof.TopK
public import proofs.«01_k».proof.Proof.Digamma
public import proofs.«01_k».proof.Proof.Consts
public import proofs.«01_k».proof.Proof.Gen.ReferenceIdeal.Run

@[expose] public section

set_option maxRecDepth 16384

noncomputable section

open Idealize.ShloMosaic Idealize.ShloMosaic.TcCoe Idealize.ShloMosaic.StableHlo
open Cert.Select Cert.Digamma

namespace Cert.ReferenceIdeal.Body

open Cert.ReferenceIdeal Cert.ReferenceIdeal.Gen Cert.ReferenceIdeal.Value

variable (V0 : Valuation τ sig (Elt Ideal))

/-- The samples. -/
abbrev X : Vec Ideal S4096x512 .f32 := V0 (Proc.devRef .tc main_arg0)

/-- The labels. -/
abbrev y : Vec Ideal S4096 .i32 := V0 (Proc.devRef .tc main_arg1)

/-- A truth value converted to a float. -/
theorem uitofp_bool (b : Bool) : FloatOps.uitofp (F := Ideal) .f32 (BitVec.ofBool b) = if b then (1 : EReal) else 0 := by
  show ((((BitVec.ofBool b).toNat : ℝ)) : EReal) = _
  cases b <;> simp

/-- A choice on whether two words are the same. -/
theorem select_eq (a b : BitVec 32) (u v : EReal) : Scalar.select (IntOp.cmpi .eq a b) u v = if a = b then u else v := by
  by_cases h : a = b
  · simp [Scalar.select, IntOp.cmpi, h]
  · have hb : (a == b) = false := by simpa using h
    simp [Scalar.select, IntOp.cmpi, h, hb]

/-- A distance. -/
def dR (i q : Fin 4096) : EReal := res_main_v68 V0 (ix2 i q)

/-- A class count. -/
def nR (k : Fin 10) : EReal := res_main_v7 V0 (ix1 k)

/-- A row's argument of the digamma. -/
def mR (i : Fin 4096) : EReal := res_main_v91 V0 (ix1 i)

/-- A row's anchor. -/
def aR (i : Fin 4096) : EReal :=
  -((Host.topK S4096x4 1 (FloatOps.cmpfTotal (F := Ideal) (φ := .f32) .gt) (res_main_v75 V0) sliceFits_S4096x4096_S4096x4).1 (ix2 i 3))

/-- A distance kept within its row's class. -/
def wR (i q : Fin 4096) : EReal := if y V0 (ix1 i) = y V0 (ix1 q) then dR V0 i q else ((Consts.bigR : ℝ) : EReal)

/-- A class count is a sum of ones. -/
theorem nR_eq (k : Fin 10) : nR V0 k = ∑ q : Fin 4096, if y V0 (ix1 q) = BitVec.ofNat 32 k.val then (1 : EReal) else 0 := by
  unfold nR
  pointwise [res_main_v7]
  refine Finset.sum_congr rfl fun q _ => ?_
  refine (uitofp_bool _).trans ?_
  simp

/-- The distance formula. -/
theorem dR_eq (i q : Fin 4096) : dR V0 i q
    = Ideal.sqrt (max ((∑ k : Fin 512, X V0 (ix2 i k) * X V0 (ix2 i k)) + (∑ k : Fin 512, X V0 (ix2 q k) * X V0 (ix2 q k))
        - ((2 : ℝ) : EReal) * ∑ k : Fin 512, X V0 (ix2 i k) * X V0 (ix2 q k)) 0 + ((Consts.delR : ℝ) : EReal)) := by
  have h53 : ∀ i : Fin 4096, (res_main_v53 V0 (ix1 i) : EReal) = ∑ k : Fin 512, X V0 (ix2 i k) * X V0 (ix2 i k) := fun i => by
    pointwise [res_main_v53]
  unfold dR
  rw [← h53, ← h53]
  pointwise [res_main_v68, Consts.two, Consts.del]

/-- The negated row that the reference sorts. -/
theorem v75_eq (i q : Fin 4096) : res_main_v75 V0 (ix2 i q) = - wR V0 i q := by
  unfold wR dR
  pointwise [res_main_v75, Consts.big]
  exact congrArg (fun e : EReal => -e) (select_eq _ _ _ _)

/-- The anchor is the fourth smallest of the row kept within its class. -/
theorem aR_fourth (i : Fin 4096) : Fourth (wR V0 i) (aR V0 i) :=
  Cert.TopK.topK_fourth _ i (wR V0 i) (fun q => v75_eq V0 i q) _

/-- The anchor less the distance. -/
def tR (i q : Fin 4096) : EReal := aR V0 i - dR V0 i q

/-- The array of the anchor less the distance, at an entry. -/
theorem v81_eq (i q : Fin 4096) : res_main_v81 V0 (ix2 i q) = tR V0 i q := by
  unfold res_main_v81 tR aR dR
  generalize (Host.topK S4096x4 1 (FloatOps.cmpfTotal .gt) (res_main_v75 V0) sliceFits_S4096x4096_S4096x4).1 = T
  generalize res_main_v68 V0 = D
  pointwise

/-- A row's argument of the digamma, from the step function written with its straight-through form. -/
theorem mR_eq (i : Fin 4096) : mR V0 i
    = (∑ q : Fin 4096, (tR V0 i q + ((if 0 ≤ tR V0 i q then (1 : EReal) else 0) - tR V0 i q))) - 1 + ((Consts.epsR : ℝ) : EReal) := by
  unfold mR res_main_v91
  simp only [← v81_eq]
  generalize res_main_v81 V0 = D
  pointwise [Consts.eps]
  simp only [uitofp_bool, decide_eq_true_eq]

/-- The reference's result, entry by entry. -/
theorem result (l : Fin 128) : (broadcastInDim S1x128 ![] bcast_S_S1x128 (maximumf (Host.divf (subf (addf (subf (constant S_ .f32 0x41051512#32) (Host.reduceAdd (mulf (Host.divf (res_main_v7 V0) (broadcastInDim S10 ![] bcast_S_S10 (constant S_ .f32 0x45800000#32))) (subf (subf (addf (subf (subf (Host.log (res_main_v11 V0)) (Host.divf (broadcastInDim S10 ![] bcast_S_S10 (constant S_ .f32 0x3F800000#32)) (mulf (broadcastInDim S10 ![] bcast_S_S10 (constant S_ .f32 0x40000000#32)) (res_main_v11 V0)))) (Host.divf (broadcastInDim S10 ![] bcast_S_S10 (constant S_ .f32 0x3F800000#32)) (mulf (broadcastInDim S10 ![] bcast_S_S10 (constant S_ .f32 0x41400000#32)) (mulf (res_main_v11 V0) (res_main_v11 V0))))) (Host.divf (broadcastInDim S10 ![] bcast_S_S10 (constant S_ .f32 0x3F800000#32)) (mulf (broadcastInDim S10 ![] bcast_S_S10 (constant S_ .f32 0x42F00000#32)) (mulf (res_main_v24 V0) (res_main_v24 V0))))) (Host.divf (broadcastInDim S10 ![] bcast_S_S10 (constant S_ .f32 0x3F800000#32)) (mulf (broadcastInDim S10 ![] bcast_S_S10 (constant S_ .f32 0x437C0000#32)) (mulf (res_main_v31 V0) (mulf (res_main_v31 V0) (res_main_v31 V0)))))) (Host.reduceAdd (Host.divf (broadcastInDim S10x6 ![] bcast_S_S10x6 (constant S_ .f32 0x3F800000#32)) (addf (broadcastInDim S10x6 ![0, 1] bcast_S10x1_S10x6_0_1 (broadcastInDim S10x1 ![0] bcast_S10_S10x1_0 (res_main_v7 V0))) (broadcastInDim S10x6 ![0, 1] bcast_S1x6_S10x6_0_1 (broadcastInDim S1x6 ![1] bcast_S6_S1x6_1 (sitofp .f32 (iotaInDim S6 32 0)))))) (constant S_ .f32 0x00000000#32) reducesTo_S10x6_S10_d1 h_S_))) (constant S_ .f32 0x00000000#32) reducesTo_S10_S_d0 h_S_)) (constant S_ .f32 0x3F6C3B98#32)) (Host.divf (Host.reduceAdd (subf (subf (addf (subf (subf (Host.log (res_main_v93 V0)) (Host.divf (broadcastInDim S4096 ![] bcast_S_S4096 (constant S_ .f32 0x3F800000#32)) (mulf (broadcastInDim S4096 ![] bcast_S_S4096 (constant S_ .f32 0x40000000#32)) (res_main_v93 V0)))) (Host.divf (broadcastInDim S4096 ![] bcast_S_S4096 (constant S_ .f32 0x3F800000#32)) (mulf (broadcastInDim S4096 ![] bcast_S_S4096 (constant S_ .f32 0x41400000#32)) (mulf (res_main_v93 V0) (res_main_v93 V0))))) (Host.divf (broadcastInDim S4096 ![] bcast_S_S4096 (constant S_ .f32 0x3F800000#32)) (mulf (broadcastInDim S4096 ![] bcast_S_S4096 (constant S_ .f32 0x42F00000#32)) (mulf (res_main_v106 V0) (res_main_v106 V0))))) (Host.divf (broadcastInDim S4096 ![] bcast_S_S4096 (constant S_ .f32 0x3F800000#32)) (mulf (broadcastInDim S4096 ![] bcast_S_S4096 (constant S_ .f32 0x437C0000#32)) (mulf (res_main_v113 V0) (mulf (res_main_v113 V0) (res_main_v113 V0)))))) (Host.reduceAdd (Host.divf (broadcastInDim S4096x6 ![] bcast_S_S4096x6 (constant S_ .f32 0x3F800000#32)) (addf (broadcastInDim S4096x6 ![0, 1] bcast_S4096x1_S4096x6_0_1 (broadcastInDim S4096x1 ![0] bcast_S4096_S4096x1_0 (res_main_v91 V0))) (broadcastInDim S4096x6 ![0, 1] bcast_S1x6_S4096x6_0_1 (broadcastInDim S1x6 ![1] bcast_S6_S1x6_1 (sitofp .f32 (iotaInDim S6 32 0)))))) (constant S_ .f32 0x00000000#32) reducesTo_S4096x6_S4096_d1 h_S_)) (constant S_ .f32 0x00000000#32) reducesTo_S4096_S_d0 h_S_) (constant S_ .f32 0x45800000#32))) (Host.log (constant S_ .f32 0x40000000#32))) (constant S_ .f32 0x00000000#32))) (ix2 0 l)
    = max (Ideal.div (((FloatOps.ofBits (F := Ideal) .f32 0x41051512#32
          - ∑ k : Fin 10, Ideal.div (nR V0 k) ((4096 : ℝ) : EReal) * rpsi (nR V0 k))
          + FloatOps.ofBits (F := Ideal) .f32 0x3F6C3B98#32)
        - Ideal.div (∑ i : Fin 4096, rpsi (mR V0 i)) ((4096 : ℝ) : EReal)) (Ideal.log ((2 : ℝ) : EReal))) 0 := by
  unfold res_main_v24 res_main_v31 res_main_v11 res_main_v106 res_main_v113 res_main_v93 nR mR rpsi
  generalize res_main_v7 V0 = N
  generalize res_main_v91 V0 = M
  pointwise [Consts.two, Consts.six, Consts.twelve, Consts.c120, Consts.c252, Consts.c4096]
  have hs : ∀ k : Fin 6, FloatOps.sitofp (F := Ideal) .f32 (BitVec.ofNat 32 k.val) = (((k.val : ℝ)) : EReal) := fun k => by
    show ((((BitVec.ofNat 32 k.val).toInt : ℝ)) : EReal) = _
    have : (BitVec.ofNat 32 k.val).toInt = (k.val : ℤ) := by revert k; decide
    rw [this]; simp
  simp only [hs]

end Cert.ReferenceIdeal.Body

end
-- ==== Proof.Order.lean ====
/- The two programs' distances put the samples in the same order, so they count the same neighbours. The kernel compares
   `|x_q|² - 2 x_i·x_q`, the reference `√(|x_i|² + |x_q|² - 2 x_i·x_q + δ)`: within a row the second grows with the first. -/
module

public import proofs.«01_k».proof.Proof.Fold
public import proofs.«01_k».proof.Proof.RefRead

@[expose] public section

set_option maxRecDepth 16384

noncomputable section

open Idealize.ShloMosaic Idealize.ShloMosaic.TcCoe Idealize.ShloMosaic.StableHlo
open Cert.Select Cert.Digamma Cert.Consts

namespace Cert.Order

open Cert.ReferenceIdeal.Body (dR wR aR tR mR nR dR_eq aR_fourth mR_eq nR_eq)
open Cert.KernelIdeal.Body (dK wK psiK)

section Reals

variable (x : Fin 4096 → Fin 512 → ℝ)

/-- The kernel's comparison value, as a real. -/
def dk (i q : Fin 4096) : ℝ := (∑ k, x q k * x q k) + ∑ k, x i k * (-2) * x q k

/-- The squared distance, as a real. -/
def sq (i q : Fin 4096) : ℝ := ∑ k, (x i k - x q k) ^ 2

/-- The reference's distance, as a real. -/
def dr (i q : Fin 4096) : ℝ := √(sq x i q + delR)

/-- The squared distance is the kernel's value plus a number that depends on the row alone. -/
theorem sq_eq (i q : Fin 4096) : sq x i q = (∑ k, x i k * x i k) + dk x i q := by
  unfold sq dk
  rw [← Finset.sum_add_distrib, ← Finset.sum_add_distrib]
  exact Finset.sum_congr rfl fun k _ => by ring

/-- A squared distance is not negative. -/
theorem sq_nonneg (i q : Fin 4096) : 0 ≤ sq x i q := Finset.sum_nonneg fun k _ => _root_.sq_nonneg _

/-- The offset under the root is positive. -/
theorem del_pos : 0 < delR := by unfold delR; positivity

/-- Same order within a row. -/
theorem order (i j k : Fin 4096) : dk x i j ≤ dk x i k ↔ dr x i j ≤ dr x i k := by
  unfold dr
  rw [Real.sqrt_le_sqrt_iff (add_nonneg (sq_nonneg x i k) del_pos.le), sq_eq, sq_eq]
  constructor <;> intro h <;> linarith

variable (hx : ∀ i k, |x i k| ≤ 10 ^ 13)
include hx

/-- The kernel's values stay below the fill. -/
theorem dk_lt (i q : Fin 4096) : dk x i q < bigR := by
  have h1 : dk x i q ≤ ∑ k : Fin 512, (3 * 10 ^ 26 : ℝ) := by
    unfold dk
    rw [← Finset.sum_add_distrib]
    refine Finset.sum_le_sum fun k _ => ?_
    have a := abs_le.mp (hx i k)
    have b := abs_le.mp (hx q k)
    nlinarith [mul_nonneg (sub_nonneg.mpr b.2) (sub_nonneg.mpr b.1), abs_mul (x i k) (x q k), neg_abs_le (x i k * x q k),
      mul_le_mul (hx i k) (hx q k) (abs_nonneg _) (by positivity)]
  refine h1.trans_lt ?_
  unfold bigR
  simp only [Finset.sum_const, Finset.card_univ, Fintype.card_fin, nsmul_eq_mul]
  norm_num

/-- The reference's distances stay below the fill. -/
theorem dr_lt (i q : Fin 4096) : dr x i q < bigR := by
  have h1 : sq x i q ≤ ∑ k : Fin 512, (4 * 10 ^ 26 : ℝ) := by
    unfold sq
    refine Finset.sum_le_sum fun k _ => ?_
    have a := abs_le.mp (hx i k)
    have b := abs_le.mp (hx q k)
    have h : |x i k - x q k| ≤ 2 * 10 ^ 13 := abs_le.mpr ⟨by linarith, by linarith⟩
    rw [← sq_abs]
    nlinarith [abs_nonneg (x i k - x q k)]
  simp only [Finset.sum_const, Finset.card_univ, Fintype.card_fin, nsmul_eq_mul] at h1
  unfold dr
  rw [Real.sqrt_lt' (by unfold bigR; positivity)]
  refine lt_of_le_of_lt (add_le_add h1 le_rfl) ?_
  unfold bigR delR
  norm_num

end Reals

variable (V0 : Valuation Cert.ReferenceIdeal.τ Cert.ReferenceIdeal.sig (Elt Ideal))
variable (X : Vec Ideal ⟨2, ![4096, 512]⟩ .f32) (y : Vec Ideal ⟨1, ![4096]⟩ .i32)
variable (hVX : Cert.ReferenceIdeal.Body.X V0 = X) (hVy : Cert.ReferenceIdeal.Body.y V0 = y)
variable (x : Fin 4096 → Fin 512 → ℝ) (hX : ∀ i k, X (ix2 i k) = ((x i k : ℝ) : EReal))

include hX in
/-- The kernel's comparison value is the real one. -/
theorem dK_coe (i q : Fin 4096) : dK X i q = ((dk x i q : ℝ) : EReal) := by
  unfold dK dk
  rw [EReal.coe_add, coe_sum, coe_sum]
  simp only [hX, EReal.coe_mul]

include hVX hX in
/-- The reference's distance is the real one. -/
theorem dR_coe (i q : Fin 4096) : dR V0 i q = ((dr x i q : ℝ) : EReal) := by
  rw [dR_eq, hVX]
  simp only [hX, ← EReal.coe_mul, ← coe_sum, ← EReal.coe_add, ← EReal.coe_sub]
  have e : (∑ k, x i k * x i k) + (∑ k, x q k * x q k) - 2 * ∑ k, x i k * x q k = sq x i q := by
    unfold sq
    rw [Finset.mul_sum, ← Finset.sum_add_distrib, ← Finset.sum_sub_distrib]
    exact Finset.sum_congr rfl fun k _ => by ring
  rw [e, max_eq_left (EReal.coe_nonneg.mpr (sq_nonneg x i q)), ← EReal.coe_add]
  show (if sq x i q + delR < 0 then (⊥ : EReal) else ((√(sq x i q + delR) : ℝ) : EReal)) = _
  rw [if_neg (not_lt.mpr (add_nonneg (sq_nonneg x i q) del_pos.le))]
  rfl

/-- The step function's straight-through form is the step. -/
theorem straight (t : ℝ) (p : ℝ) : (t : EReal) + ((p : ℝ) - (t : EReal)) = p := by
  rw [← EReal.coe_sub, ← EReal.coe_add]
  congr 1
  ring

variable (hx : ∀ i k, |x i k| ≤ 10 ^ 13)

include hX hx in
/-- The kernel's masked values are at most the fill. -/
theorem wK_le (i q : Fin 4096) : wK X y i q ≤ ((bigR : ℝ) : EReal) := by
  unfold wK
  split
  · rw [dK_coe X x hX]
    exact_mod_cast (dk_lt x hx i q).le
  · exact le_rfl

/-- How many samples a row's threshold admits. -/
def cnt (i : Fin 4096) (a : EReal) : ℕ := (Finset.univ.filter fun q : Fin 4096 => dK X i q ≤ a).card

include hX hx in
/-- A row's threshold admits some sample. -/
theorem cnt_pos (i : Fin 4096) (a : EReal) (ha : Fourth (wK X y i) a) : 1 ≤ cnt X i a := by
  obtain ⟨p, rfl⟩ := ha.exists_eq
  refine Finset.card_pos.mpr ⟨p, Finset.mem_filter.mpr ⟨Finset.mem_univ _, ?_⟩⟩
  unfold wK
  split
  · exact le_rfl
  · rw [dK_coe X x hX]
    exact_mod_cast (dk_lt x hx i p).le

include hVX hVy hX hx in
/-- THE COUNTS AGREE: a row's argument of the digamma, in the reference, from the kernel's count. -/
theorem mR_cnt (i : Fin 4096) (a : EReal) (ha : Fourth (wK X y i) a) :
    mR V0 i = (((cnt X i a : ℝ) - 1 + epsR : ℝ) : EReal) := by
  have hR := aR_fourth V0 i
  have key : ∀ q, dK X i q ≤ a ↔ dR V0 i q ≤ aR V0 i := by
    refine count_transfer (s := fun q => y (ix1 i) = y (ix1 q)) (B := ((bigR : ℝ) : EReal)) (B' := ((bigR : ℝ) : EReal)) (fun q => ?_) (fun q => ?_) (fun q => ?_) (fun q => ?_)
      (fun j k => ?_) ha hR
    · unfold wK
      refine if_congr ?_ rfl rfl
      rw [EReal.coe_eq_coe_iff, Int.cast_inj, BitVec.toInt_inj]
    · unfold wR
      rw [hVy]
    · rw [dK_coe X x hX]
      exact_mod_cast dk_lt x hx i q
    · rw [dR_coe V0 X hVX x hX]
      exact_mod_cast dr_lt x hx i q
    · rw [dK_coe X x hX, dK_coe X x hX, dR_coe V0 X hVX x hX, dR_coe V0 X hVX x hX, EReal.coe_le_coe_iff, EReal.coe_le_coe_iff]
      exact order x i j k
  obtain ⟨r, hr⟩ : ∃ r : ℝ, aR V0 i = (r : EReal) := by
    obtain ⟨p, hp⟩ := hR.exists_eq
    rw [← hp]
    unfold wR
    split
    · exact ⟨_, dR_coe V0 X hVX x hX i p⟩
    · exact ⟨_, rfl⟩
  have ht : ∀ q, tR V0 i q + ((if 0 ≤ tR V0 i q then (1 : EReal) else 0) - tR V0 i q)
      = (((if dK X i q ≤ a then 1 else 0 : ℝ)) : EReal) := fun q => by
    have e : tR V0 i q = ((r - dr x i q : ℝ) : EReal) := by
      unfold tR
      rw [hr, dR_coe V0 X hVX x hX, EReal.coe_sub]
    have e' : (0 ≤ tR V0 i q) ↔ dK X i q ≤ a := by
      rw [key q, hr, dR_coe V0 X hVX x hX, e, EReal.coe_le_coe_iff, EReal.coe_nonneg, sub_nonneg]
    by_cases h : dK X i q ≤ a
    · rw [if_pos (e'.mpr h), if_pos h, e]
      exact straight _ 1
    · rw [if_neg (fun h' => h (e'.mp h')), if_neg h, e]
      exact straight _ 0
  rw [mR_eq]
  simp only [ht]
  rw [← coe_sum, Finset.sum_boole]
  unfold cnt
  norm_cast

include hVX hVy hX hx in
/-- A row's digamma, the same in both. -/
theorem psi_row (i : Fin 4096) (a : EReal) (ha : Fourth (wK X y i) a) :
    ∃ p : ℝ, psiK X i a = (p : EReal) ∧ rpsi (mR V0 i) = (p : EReal) := by
  have h1 := cnt_pos X y x hX hx i a ha
  have hpos : 0 < (cnt X i a : ℝ) - 1 + epsR := by
    have : (1 : ℝ) ≤ cnt X i a := by exact_mod_cast h1
    have : 0 < epsR := by unfold epsR; positivity
    linarith
  refine ⟨_, kpsi_coe hpos, ?_⟩
  rw [mR_cnt V0 X y hVX hVy x hX hx i a ha, rpsi_coe hpos]
  rfl

end Cert.Order

end
-- ==== Proof.PreRead.lean ====
/- The precondition, read: every entry of the sample array is a real number of absolute value at most 10¹³. -/
module

public import proofs.«01_k».proof.Proof.Gen.Pre_bounded
public import proofs.«01_k».proof.Defs
public import proofs.«01_k».proof.Proof.TopK

@[expose] public section

set_option maxRecDepth 16384

noncomputable section

open Idealize.ShloMosaic Idealize.ShloMosaic.TcCoe

namespace Cert.PreRead

open Cert.Pre_bounded

/-- The precondition's bound, `1e13` rounded, as a real. -/
theorem bound : FloatOps.ofBits (F := Ideal) .f32 0x551184E7#32 = ((9999999827968 : ℝ) : EReal) := by
  show Ideal.ofBits .f32 0x551184E7#32 = _
  simp [Ideal.ofBits, Ideal.ieee, -EReal.coe_mul]
  norm_num

/-- The precondition, entry by entry. -/
theorem bounded (x : Vec Ideal S4096x512 .f32) (y : Vec Ideal S4096 .i32) (h : fn (F := Ideal) x y = fun _ => 1#1)
    (i : Fin 4096) (k : Fin 512) : ∃ r : ℝ, x (ix2 i k) = (r : EReal) ∧ |r| ≤ 10 ^ 13 := by
  have h' := congrFun h (ix2 i k)
  revert h'
  unfold fn
  dsimp only
  pointwise [bound]
  intro h'
  have h2 : FloatOps.absf (F := Ideal) (φ := .f32) (x (ix2 i k)) ≤ ((9999999827968 : ℝ) : EReal) := by
    by_contra hn
    simp [hn] at h'
  revert h2
  show max (x (ix2 i k) : EReal) (-x (ix2 i k)) ≤ _ → _
  intro h2
  generalize (x (ix2 i k) : EReal) = v at h2
  induction v using EReal.rec with
  | bot => simp at h2
  | top => simp at h2
  | coe r =>
    refine ⟨r, rfl, ?_⟩
    rw [← EReal.coe_neg, max_le_iff, EReal.coe_le_coe_iff, EReal.coe_le_coe_iff] at h2
    rw [abs_le]
    constructor <;> linarith

end Cert.PreRead

end
-- ==== Proof.Final.lean ====
/- The two programs' results agree, entry by entry. -/
module

public import proofs.«01_k».proof.Proof.Order
public import proofs.«01_k».proof.Proof.PreRead

@[expose] public section

set_option maxRecDepth 16384

noncomputable section

open Idealize.ShloMosaic Idealize.ShloMosaic.TcCoe Idealize.ShloMosaic.StableHlo
open Cert.Select Cert.Digamma Cert.Consts

namespace Cert.Final

open Cert.ReferenceIdeal.Body (mR nR nR_eq)
open Cert.KernelIdeal.Body (dK wK psiK cntK termK clsTot clsTot_eq)

variable (V0 : Valuation Cert.ReferenceIdeal.τ Cert.ReferenceIdeal.sig (Elt Ideal))
variable (y : Vec Ideal ⟨1, ![4096]⟩ .i32) (hVy : Cert.ReferenceIdeal.Body.y V0 = y)
variable (yf : Vec Ideal ⟨2, ![1, 4096]⟩ .f32) (hyf : ∀ q : Fin 4096, yf (ix2 0 q) = (((y (ix1 q)).toInt : ℝ) : EReal))

/-- How many samples have label `k`. -/
def cls (k : ℕ) : ℕ := (Finset.univ.filter fun q : Fin 4096 => y (ix1 q) = BitVec.ofNat 32 k).card

include hVy in
/-- The reference's class count. -/
theorem nR_cls (k : Fin 10) : nR V0 k = ((cls y k.val : ℝ) : EReal) := by
  rw [nR_eq, hVy]
  unfold cls
  rw [Finset.sum_boole]
  norm_cast

include hyf in
/-- The kernel's class count. -/
theorem cntK_cls (k : ℕ) (hk : k < 10) (e : EReal) (he : e = ((k : ℝ) : EReal)) : cntK yf e = ((cls y k : ℝ) : EReal) := by
  have h : ∀ q, yf (ix2 0 q) = e ↔ y (ix1 q) = BitVec.ofNat 32 k := fun q => by
    have hk' : (BitVec.ofNat 32 k).toInt = (k : ℤ) := by
      interval_cases k <;> rfl
    rw [hyf, he, EReal.coe_eq_coe_iff, ← BitVec.toInt_inj, hk']
    norm_cast
  unfold cntK cls
  simp only [h]
  rw [Finset.sum_boole]
  norm_cast

/-- A class's term, as a real: zero for an empty class. -/
def term (k : ℕ) : ℝ := cls y k * psi (cls y k)

include hyf in
/-- The kernel's class term. -/
theorem termK_eq (k : ℕ) (hk : k < 10) (e : EReal) (he : e = ((k : ℝ) : EReal)) : termK yf e = ((term y k : ℝ) : EReal) := by
  unfold termK term
  rw [cntK_cls y yf hyf k hk e he]
  rcases Nat.eq_zero_or_pos (cls y k) with h | h
  · rw [h]; simp
  · rw [kpsi_coe (by exact_mod_cast h), EReal.coe_mul]

include hVy in
/-- The reference's class term. -/
theorem termR_eq (k : Fin 10) : Ideal.div (nR V0 k) ((4096 : ℝ) : EReal) * rpsi (nR V0 k) = ((term y k.val * (1 / 4096) : ℝ) : EReal) := by
  unfold term
  rw [nR_cls V0 y hVy, Ideal.div_coe (by norm_num)]
  rcases Nat.eq_zero_or_pos (cls y k.val) with h | h
  · rw [h]; simp
  · rw [rpsi_coe (by exact_mod_cast h), ← EReal.coe_mul, ← EReal.coe_mul]
    congr 1
    ring

include hVy hyf in
/-- The class sums agree. -/
theorem classes : clsTot yf * ((1 / 4096 : ℝ) : EReal) = ∑ k : Fin 10, Ideal.div (nR V0 k) ((4096 : ℝ) : EReal) * rpsi (nR V0 k) := by
  simp only [termR_eq V0 y hVy]
  rw [← coe_sum, clsTot_eq, termK_eq y yf hyf 0 (by norm_num) 0 (by simp), termK_eq y yf hyf 1 (by norm_num) 1 (by simp),
    termK_eq y yf hyf 2 (by norm_num) _ (by norm_num), termK_eq y yf hyf 3 (by norm_num) _ (by norm_num),
    termK_eq y yf hyf 4 (by norm_num) _ (by norm_num), termK_eq y yf hyf 5 (by norm_num) _ (by norm_num),
    termK_eq y yf hyf 6 (by norm_num) _ (by norm_num), termK_eq y yf hyf 7 (by norm_num) _ (by norm_num),
    termK_eq y yf hyf 8 (by norm_num) _ (by norm_num), termK_eq y yf hyf 9 (by norm_num) _ (by norm_num)]
  simp only [← EReal.coe_add, ← EReal.coe_mul]
  congr 1
  rw [← Finset.sum_mul, Fin.sum_univ_eq_sum_range (fun k => term y k) 10]
  simp only [Finset.sum_range_succ, Finset.sum_range_zero, zero_add]

variable (X : Vec Ideal ⟨2, ![4096, 512]⟩ .f32) (hVX : Cert.ReferenceIdeal.Body.X V0 = X)
variable (x : Fin 4096 → Fin 512 → ℝ) (hX : ∀ i k, X (ix2 i k) = ((x i k : ℝ) : EReal)) (hx : ∀ i k, |x i k| ≤ 10 ^ 13)
variable (A : Fin 4096 → EReal) (hA : ∀ i, Fourth (wK X y i) (A i))

include hVy hVX hX hx hA in
/-- The sums over the rows agree. -/
theorem rows : (∑ i, psiK X i (A i)) * ((1 / 4096 : ℝ) : EReal) = Ideal.div (∑ i, rpsi (mR V0 i)) ((4096 : ℝ) : EReal) := by
  rw [Ideal.div_coe (by norm_num)]
  refine congrArg (· * _) (Finset.sum_congr rfl fun i _ => ?_)
  obtain ⟨p, h1, h2⟩ := Cert.Order.psi_row V0 X y hVX hVy x hX hx i (A i) (hA i)
  rw [h1, h2]

/-- The division by the logarithm of two. -/
theorem by_log (u : EReal) : u * (((Real.log 2)⁻¹ : ℝ) : EReal) = Ideal.div u (Ideal.log ((2 : ℝ) : EReal)) := by
  rw [log_coe (by norm_num), Ideal.div_coe (Real.log_pos (by norm_num)).ne', one_div]

end Cert.Final

namespace Cert.Proof

open Cert.KernelIdeal.Body (argX argY wK yrow exists_fourth)

/-- THE VALUE CLAIM: at `Ideal`, under the bound on the samples, the kernel's result array and the reference's agree. -/
theorem algebraic : Cert.algebraic_KernelIdeal_ReferenceIdeal_pre_bounded := by
  intro m g m' g' hpre hargs
  have hb : ∀ (c : Dev Cert.KernelIdeal.nD) (i : Fin 4096) (k : Fin 512), ∃ r : ℝ, argX m c (ix2 i k) = (r : EReal) ∧ |r| ≤ 10 ^ 13 :=
    fun c i k => Cert.PreRead.bounded _ _ (hpre c) i k
  choose x hX hx using hb
  have hB : ∀ c i q, wK (argX m c) (argY m c) i q ≤ ((Consts.bigR : ℝ) : EReal) :=
    fun c i q => Cert.Order.wK_le _ _ (x c) (hX c) (hx c) i q
  have hA := fun c i => exists_fourth m c (hB c) i
  choose A hA using hA
  refine ⟨fun c => Cert.KernelIdeal.Value.G4 m c, ?_, ?_⟩
  · run_from Cert.KernelIdeal.Value.run m g
  · run_from Cert.ReferenceIdeal.Value.run m' g'
    funext j
    obtain ⟨p, l, rfl⟩ : ∃ (p : Fin 1) (l : Fin 128), j = ix2 p l := ⟨j 0, j 1, eq_ix2 j⟩
    obtain rfl : p = 0 := Subsingleton.elim _ _
    have hVX : Cert.ReferenceIdeal.Body.X (launchContents m' c) = argX m c := (hargs c).1
    have hVy : Cert.ReferenceIdeal.Body.y (launchContents m' c) = argY m c := (hargs c).2
    refine (Cert.ReferenceIdeal.Body.result (launchContents m' c) l).trans ?_
    rw [Cert.KernelIdeal.Body.result m c (hB c) (A c) (hA c) l,
      Cert.Final.classes (launchContents m' c) (argY m c) hVy (yrow m c) (fun q => rfl),
      Cert.Final.rows (launchContents m' c) (argY m c) hVy (argX m c) hVX (x c) (hX c) (hx c) (A c) (hA c), Cert.Final.by_log]
    rfl

end Cert.Proof

end
-- ==== Proof.lean ====
/- The five claims, put together. -/
module

public import proofs.«01_k».proof.Proof.Gen.KernelIdeal.Value
public import proofs.«01_k».proof.Proof.Gen.ReferenceIdeal.Run
public import proofs.«01_k».proof.Defs
public import proofs.«01_k».proof.Proof.Final
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bounded
public import Idealize.ShloMosaic.Adequacy
public import Idealize.ShloMosaic.Init

@[expose] public section

noncomputable section

namespace Cert.Proof

open Idealize.ShloMosaic Idealize.SL.Sem Cert.Kernel

/-- The kernel's rounded constants stand for the exact ones: the four named constants, each at its stated value. -/
theorem preserves : Cert.preserves_Kernel_KernelIdeal :=
  ⟨IdealRules.named_const.statement Cert.KernelIdeal.κ "r252" .f32 0x3B820821#32 ((1 / 252 : ℝ) : EReal) rfl,
    IdealRules.named_const.statement Cert.KernelIdeal.κ "r120" .f32 0x3C088889#32 ((1 / 120 : ℝ) : EReal) rfl,
    IdealRules.named_const.statement Cert.KernelIdeal.κ "twelfth" .f32 0x3DAAAAAB#32 ((1 / 12 : ℝ) : EReal) rfl,
    IdealRules.named_const.statement Cert.KernelIdeal.κ "inv_ln2" .f32 0x3FB8AA3B#32 (((Real.log 2)⁻¹ : ℝ) : EReal) rfl⟩

/-- The reference runs, leaves its arguments unchanged, and has no semaphore that could end away from zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- All the claims: the three programs run and leave their arguments unchanged, the named constants are what they stand for,
    and the kernel's result is the reference's. -/
theorem claim : Cert.Claim :=
  ⟨Cert.Kernel.Gen.facts, Cert.KernelIdeal.Gen.facts, Cert.ReferenceIdeal.Gen.facts, Cert.Pre_bounded.Gen.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, preserves, algebraic⟩

end Cert.Proof

end
